-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_ProjU (m : (ℓ : Loc Cert.ProjU.nD Cert.ProjU.τ Cert.ProjU.sig) → Buf (Elt Bits) ℓ) : Prop :=
  True

def Pre_ProjUIdeal (m : (ℓ : Loc Cert.ProjUIdeal.nD Cert.ProjUIdeal.τ Cert.ProjUIdeal.sig) → Buf (Elt Ideal) ℓ) : Prop :=
  True

def Pre_ProjURefIdeal (m : (ℓ : Loc Cert.ProjURefIdeal.nD Cert.ProjURefIdeal.τ Cert.ProjURefIdeal.sig) → Buf (Elt Ideal) ℓ) : Prop :=
  True

def Pre_ProjVs (m : (ℓ : Loc Cert.ProjVs.nD Cert.ProjVs.τ Cert.ProjVs.sig) → Buf (Elt Bits) ℓ) : Prop :=
  True

def Pre_ProjVsIdeal (m : (ℓ : Loc Cert.ProjVsIdeal.nD Cert.ProjVsIdeal.τ Cert.ProjVsIdeal.sig) → Buf (Elt Ideal) ℓ) : Prop :=
  True

def Pre_ProjVsRefIdeal (m : (ℓ : Loc Cert.ProjVsRefIdeal.nD Cert.ProjVsRefIdeal.τ Cert.ProjVsRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryRefIdeal (m : (ℓ : Loc Cert.PeerQueryRefIdeal.nD Cert.PeerQueryRefIdeal.τ Cert.PeerQueryRefIdeal.sig) → Buf (Elt Ideal) ℓ) : Prop :=
  True

def Pre_ProjKvS (m : (ℓ : Loc Cert.ProjKvS.nD Cert.ProjKvS.τ Cert.ProjKvS.sig) → Buf (Elt Bits) ℓ) : Prop :=
  True

def Pre_ProjKvSIdeal (m : (ℓ : Loc Cert.ProjKvSIdeal.nD Cert.ProjKvSIdeal.τ Cert.ProjKvSIdeal.sig) → Buf (Elt Ideal) ℓ) : Prop :=
  True

def Pre_ProjKvSRefIdeal (m : (ℓ : Loc Cert.ProjKvSRefIdeal.nD Cert.ProjKvSRefIdeal.τ Cert.ProjKvSRefIdeal.sig) → Buf (Elt Ideal) ℓ) : Prop :=
  True

def Pre_ProjVsS (m : (ℓ : Loc Cert.ProjVsS.nD Cert.ProjVsS.τ Cert.ProjVsS.sig) → Buf (Elt Bits) ℓ) : Prop :=
  True

def Pre_ProjVsSIdeal (m : (ℓ : Loc Cert.ProjVsSIdeal.nD Cert.ProjVsSIdeal.τ Cert.ProjVsSIdeal.sig) → Buf (Elt Ideal) ℓ) : Prop :=
  True

def Pre_ProjVsSRefIdeal (m : (ℓ : Loc Cert.ProjVsSRefIdeal.nD Cert.ProjVsSRefIdeal.τ Cert.ProjVsSRefIdeal.sig) → Buf (Elt Ideal) ℓ) : Prop :=
  True

def Pre_PeerExperts (m : (ℓ : Loc Cert.PeerExperts.nD Cert.PeerExperts.τ Cert.PeerExperts.sig) → Buf (Elt Bits) ℓ) : Prop :=
  True

def Pre_PeerExpertsIdeal (m : (ℓ : Loc Cert.PeerExpertsIdeal.nD Cert.PeerExpertsIdeal.τ Cert.PeerExpertsIdeal.sig) → Buf (Elt Ideal) ℓ) : Prop :=
  True

def Pre_PeerExpertsIdeal_finite_experts [hPre_finite_experts : Cert.Pre_finite_experts.Facts] (m : (ℓ : Loc Cert.PeerExpertsIdeal.nD Cert.PeerExpertsIdeal.τ Cert.PeerExpertsIdeal.sig) → Buf (Elt Ideal) ℓ) : Prop :=
  ∀ c : Dev Cert.PeerExpertsIdeal.nD,
    (Cert.Pre_finite_experts.fn (F := Ideal) (m ((c.tc : Thread Cert.PeerExpertsIdeal.nD Cert.PeerExpertsIdeal.τ).loc Cert.PeerExpertsIdeal.main_arg0)) (m ((c.tc : Thread Cert.PeerExpertsIdeal.nD Cert.PeerExpertsIdeal.τ).loc Cert.PeerExpertsIdeal.main_arg1)) (m ((c.tc : Thread Cert.PeerExpertsIdeal.nD Cert.PeerExpertsIdeal.τ).loc Cert.PeerExpertsIdeal.main_arg2)) (m ((c.tc : Thread Cert.PeerExpertsIdeal.nD Cert.PeerExpertsIdeal.τ).loc Cert.PeerExpertsIdeal.main_arg3)) (m ((c.tc : Thread Cert.PeerExpertsIdeal.nD Cert.PeerExpertsIdeal.τ).loc Cert.PeerExpertsIdeal.main_arg4)) (m ((c.tc : Thread Cert.PeerExpertsIdeal.nD Cert.PeerExpertsIdeal.τ).loc Cert.PeerExpertsIdeal.main_arg5)) (m ((c.tc : Thread Cert.PeerExpertsIdeal.nD Cert.PeerExpertsIdeal.τ).loc Cert.PeerExpertsIdeal.main_arg6)) (m ((c.tc : Thread Cert.PeerExpertsIdeal.nD Cert.PeerExpertsIdeal.τ).loc Cert.PeerExpertsIdeal.main_arg7)) (m ((c.tc : Thread Cert.PeerExpertsIdeal.nD Cert.PeerExpertsIdeal.τ).loc Cert.PeerExpertsIdeal.main_arg8))) = (fun _ => 1#1)

def Pre_PeerExpertsRefIdeal (m : (ℓ : Loc Cert.PeerExpertsRefIdeal.nD Cert.PeerExpertsRefIdeal.τ Cert.PeerExpertsRefIdeal.sig) → Buf (Elt Ideal) ℓ) : Prop :=
  True

def Pre_PeerExpertsRefIdeal_finite_experts [hPre_finite_experts : Cert.Pre_finite_experts.Facts] (m : (ℓ : Loc Cert.PeerExpertsRefIdeal.nD Cert.PeerExpertsRefIdeal.τ Cert.PeerExpertsRefIdeal.sig) → Buf (Elt Ideal) ℓ) : Prop :=
  ∀ c : Dev Cert.PeerExpertsRefIdeal.nD,
    (Cert.Pre_finite_experts.fn (F := Ideal) (m ((c.tc : Thread Cert.PeerExpertsRefIdeal.nD Cert.PeerExpertsRefIdeal.τ).loc Cert.PeerExpertsRefIdeal.main_arg0)) (m ((c.tc : Thread Cert.PeerExpertsRefIdeal.nD Cert.PeerExpertsRefIdeal.τ).loc Cert.PeerExpertsRefIdeal.main_arg1)) (m ((c.tc : Thread Cert.PeerExpertsRefIdeal.nD Cert.PeerExpertsRefIdeal.τ).loc Cert.PeerExpertsRefIdeal.main_arg2)) (m ((c.tc : Thread Cert.PeerExpertsRefIdeal.nD Cert.PeerExpertsRefIdeal.τ).loc Cert.PeerExpertsRefIdeal.main_arg3)) (m ((c.tc : Thread Cert.PeerExpertsRefIdeal.nD Cert.PeerExpertsRefIdeal.τ).loc Cert.PeerExpertsRefIdeal.main_arg4)) (m ((c.tc : Thread Cert.PeerExpertsRefIdeal.nD Cert.PeerExpertsRefIdeal.τ).loc Cert.PeerExpertsRefIdeal.main_arg5)) (m ((c.tc : Thread Cert.PeerExpertsRefIdeal.nD Cert.PeerExpertsRefIdeal.τ).loc Cert.PeerExpertsRefIdeal.main_arg6)) (m ((c.tc : Thread Cert.PeerExpertsRefIdeal.nD Cert.PeerExpertsRefIdeal.τ).loc Cert.PeerExpertsRefIdeal.main_arg7)) (m ((c.tc : Thread Cert.PeerExpertsRefIdeal.nD Cert.PeerExpertsRefIdeal.τ).loc Cert.PeerExpertsRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1)
      ∧ r.2.mem ((c.tc : Thread Cert.NormQ.nD Cert.NormQ.τ).loc Cert.NormQ.main_arg2) = m ((c.tc : Thread Cert.NormQ.nD Cert.NormQ.τ).loc Cert.NormQ.main_arg2))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1))
      ∧ r.2.sem = fun _ => 0)

def quiescent_ProjU [hProjU : Cert.ProjU.Facts] : Prop :=
  ∀ (m : (ℓ : Loc Cert.ProjU.nD Cert.ProjU.τ Cert.ProjU.sig) → Buf (Elt Bits) ℓ) (g : Dev Cert.ProjU.nD → PrngReg), Pre_ProjU m →
    θ_run (Cert.ProjU.defs (F := Bits)) (onTc (τ := Cert.ProjU.τ) (Cert.ProjU.main (F := Bits))) ⟨m, fun _ => 0, g⟩ (fun r => (∀ c : Dev Cert.ProjU.nD,
      r.2.mem ((c.tc : Thread Cert.ProjU.nD Cert.ProjU.τ).loc Cert.ProjU.main_arg0) = m ((c.tc : Thread Cert.ProjU.nD Cert.ProjU.τ).loc Cert.ProjU.main_arg0)
      ∧ r.2.mem ((c.tc : Thread Cert.ProjU.nD Cert.ProjU.τ).loc Cert.ProjU.main_arg1) = m ((c.tc : Thread Cert.ProjU.nD Cert.ProjU.τ).loc Cert.ProjU.main_arg1))
      ∧ r.2.sem = fun _ => 0)

def quiescent_ProjUIdeal [hProjUIdeal : Cert.ProjUIdeal.Facts] : Prop :=
  ∀ (m : (ℓ : Loc Cert.ProjUIdeal.nD Cert.ProjUIdeal.τ Cert.ProjUIdeal.sig) → Buf (Elt Ideal) ℓ) (g : Dev Cert.ProjUIdeal.nD → PrngReg), Pre_ProjUIdeal m →
    θ_run (Cert.ProjUIdeal.defs (F := Ideal)) (onTc (τ := Cert.ProjUIdeal.τ) (Cert.ProjUIdeal.main (F := Ideal))) ⟨m, fun _ => 0, g⟩ (fun r => (∀ c : Dev Cert.ProjUIdeal.nD,
      r.2.mem ((c.tc : Thread Cert.ProjUIdeal.nD Cert.ProjUIdeal.τ).loc Cert.ProjUIdeal.main_arg0) = m ((c.tc : Thread Cert.ProjUIdeal.nD Cert.ProjUIdeal.τ).loc Cert.ProjUIdeal.main_arg0)
      ∧ r.2.mem ((c.tc : Thread Cert.ProjUIdeal.nD Cert.ProjUIdeal.τ).loc Cert.ProjUIdeal.main_arg1) = m ((c.tc : Thread Cert.ProjUIdeal.nD Cert.ProjUIdeal.τ).loc Cert.ProjUIdeal.main_arg1))
      ∧ r.2.sem = fun _ => 0)

def quiescent_ProjURefIdeal [hProjURefIdeal : Cert.ProjURefIdeal.Facts] : Prop :=
  ∀ (m : (ℓ : Loc Cert.ProjURefIdeal.nD Cert.ProjURefIdeal.τ Cert.ProjURefIdeal.sig) → Buf (Elt Ideal) ℓ) (g : Dev Cert.ProjURefIdeal.nD → PrngReg), Pre_ProjURefIdeal m →
    θ_run (Cert.ProjURefIdeal.defs (F := Ideal)) (onTc (τ := Cert.ProjURefIdeal.τ) (Cert.ProjURefIdeal.main (F := Ideal))) ⟨m, fun _ => 0, g⟩ (fun r => (∀ c : Dev Cert.ProjURefIdeal.nD,
      r.2.mem ((c.tc : Thread Cert.ProjURefIdeal.nD Cert.ProjURefIdeal.τ).loc Cert.ProjURefIdeal.main_arg0) = m ((c.tc : Thread Cert.ProjURefIdeal.nD Cert.ProjURefIdeal.τ).loc Cert.ProjURefIdeal.main_arg0)
      ∧ r.2.mem ((c.tc : Thread Cert.ProjURefIdeal.nD Cert.ProjURefIdeal.τ).loc Cert.ProjURefIdeal.main_arg1) = m ((c.tc : Thread Cert.ProjURefIdeal.nD Cert.ProjURefIdeal.τ).loc Cert.ProjURefIdeal.main_arg1))
      ∧ r.2.sem = fun _ => 0)

def quiescent_ProjVs [hProjVs : Cert.ProjVs.Facts] : Prop :=
  ∀ (m : (ℓ : Loc Cert.ProjVs.nD Cert.ProjVs.τ Cert.ProjVs.sig) → Buf (Elt Bits) ℓ) (g : Dev Cert.ProjVs.nD → PrngReg), Pre_ProjVs m →
    θ_run (Cert.ProjVs.defs (F := Bits)) (onTc (τ := Cert.ProjVs.τ) (Cert.ProjVs.main (F := Bits))) ⟨m, fun _ => 0, g⟩ (fun r => (∀ c : Dev Cert.ProjVs.nD,
      r.2.mem ((c.tc : Thread Cert.ProjVs.nD Cert.ProjVs.τ).loc Cert.ProjVs.main_arg0) = m ((c.tc : Thread Cert.ProjVs.nD Cert.ProjVs.τ).loc Cert.ProjVs.main_arg0)
      ∧ r.2.mem ((c.tc : Thread Cert.ProjVs.nD Cert.ProjVs.τ).loc Cert.ProjVs.main_arg1) = m ((c.tc : Thread Cert.ProjVs.nD Cert.ProjVs.τ).loc Cert.ProjVs.main_arg1)
      ∧ r.2.mem ((c.tc : Thread Cert.ProjVs.nD Cert.ProjVs.τ).loc Cert.ProjVs.main_arg2) = m ((c.tc : Thread Cert.ProjVs.nD Cert.ProjVs.τ).loc Cert.ProjVs.main_arg2))
      ∧ r.2.sem = fun _ => 0)

def quiescent_ProjVsIdeal [hProjVsIdeal : Cert.ProjVsIdeal.Facts] : Prop :=
  ∀ (m : (ℓ : Loc Cert.ProjVsIdeal.nD Cert.ProjVsIdeal.τ Cert.ProjVsIdeal.sig) → Buf (Elt Ideal) ℓ) (g : Dev Cert.ProjVsIdeal.nD → PrngReg), Pre_ProjVsIdeal m →
    θ_run (Cert.ProjVsIdeal.defs (F := Ideal)) (onTc (τ := Cert.ProjVsIdeal.τ) (Cert.ProjVsIdeal.main (F := Ideal))) ⟨m, fun _ => 0, g⟩ (fun r => (∀ c : Dev Cert.ProjVsIdeal.nD,
      r.2.mem ((c.tc : Thread Cert.ProjVsIdeal.nD Cert.ProjVsIdeal.τ).loc Cert.ProjVsIdeal.main_arg0) = m ((c.tc : Thread Cert.ProjVsIdeal.nD Cert.ProjVsIdeal.τ).loc Cert.ProjVsIdeal.main_arg0)
      ∧ r.2.mem ((c.tc : Thread Cert.ProjVsIdeal.nD Cert.ProjVsIdeal.τ).loc Cert.ProjVsIdeal.main_arg1) = m ((c.tc : Thread Cert.ProjVsIdeal.nD Cert.ProjVsIdeal.τ).loc Cert.ProjVsIdeal.main_arg1)
      ∧ r.2.mem ((c.tc : Thread Cert.ProjVsIdeal.nD Cert.ProjVsIdeal.τ).loc Cert.ProjVsIdeal.main_arg2) = m ((c.tc : Thread Cert.ProjVsIdeal.nD Cert.ProjVsIdeal.τ).loc Cert.ProjVsIdeal.main_arg2))
      ∧ r.2.sem = fun _ => 0)

def quiescent_ProjVsRefIdeal [hProjVsRefIdeal : Cert.ProjVsRefIdeal.Facts] : Prop :=
  ∀ (m : (ℓ : Loc Cert.ProjVsRefIdeal.nD Cert.ProjVsRefIdeal.τ Cert.ProjVsRefIdeal.sig) → Buf (Elt Ideal) ℓ) (g : Dev Cert.ProjVsRefIdeal.nD → PrngReg), Pre_ProjVsRefIdeal m →
    θ_run (Cert.ProjVsRefIdeal.defs (F := Ideal)) (onTc (τ := Cert.ProjVsRefIdeal.τ) (Cert.ProjVsRefIdeal.main (F := Ideal))) ⟨m, fun _ => 0, g⟩ (fun r => (∀ c : Dev Cert.ProjVsRefIdeal.nD,
      r.2.mem ((c.tc : Thread Cert.ProjVsRefIdeal.nD Cert.ProjVsRefIdeal.τ).loc Cert.ProjVsRefIdeal.main_arg0) = m ((c.tc : Thread Cert.ProjVsRefIdeal.nD Cert.ProjVsRefIdeal.τ).loc Cert.ProjVsRefIdeal.main_arg0)
      ∧ r.2.mem ((c.tc : Thread Cert.ProjVsRefIdeal.nD Cert.ProjVsRefIdeal.τ).loc Cert.ProjVsRefIdeal.main_arg1) = m ((c.tc : Thread Cert.ProjVsRefIdeal.nD Cert.ProjVsRefIdeal.τ).loc Cert.ProjVsRefIdeal.main_arg1)
      ∧ r.2.mem ((c.tc : Thread Cert.ProjVsRefIdeal.nD Cert.ProjVsRefIdeal.τ).loc Cert.ProjVsRefIdeal.main_arg2) = m ((c.tc : Thread Cert.ProjVsRefIdeal.nD Cert.ProjVsRefIdeal.τ).loc Cert.ProjVsRefIdeal.main_arg2))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1))
      ∧ r.2.sem = fun _ => 0)

def quiescent_ProjKvS [hProjKvS : Cert.ProjKvS.Facts] : Prop :=
  ∀ (m : (ℓ : Loc Cert.ProjKvS.nD Cert.ProjKvS.τ Cert.ProjKvS.sig) → Buf (Elt Bits) ℓ) (g : Dev Cert.ProjKvS.nD → PrngReg), Pre_ProjKvS m →
    θ_run (Cert.ProjKvS.defs (F := Bits)) (onTc (τ := Cert.ProjKvS.τ) (Cert.ProjKvS.main (F := Bits))) ⟨m, fun _ => 0, g⟩ (fun r => (∀ c : Dev Cert.ProjKvS.nD,
      r.2.mem ((c.tc : Thread Cert.ProjKvS.nD Cert.ProjKvS.τ).loc Cert.ProjKvS.main_arg0) = m ((c.tc : Thread Cert.ProjKvS.nD Cert.ProjKvS.τ).loc Cert.ProjKvS.main_arg0)
      ∧ r.2.mem ((c.tc : Thread Cert.ProjKvS.nD Cert.ProjKvS.τ).loc Cert.ProjKvS.main_arg1) = m ((c.tc : Thread Cert.ProjKvS.nD Cert.ProjKvS.τ).loc Cert.ProjKvS.main_arg1))
      ∧ r.2.sem = fun _ => 0)

def quiescent_ProjKvSIdeal [hProjKvSIdeal : Cert.ProjKvSIdeal.Facts] : Prop :=
  ∀ (m : (ℓ : Loc Cert.ProjKvSIdeal.nD Cert.ProjKvSIdeal.τ Cert.ProjKvSIdeal.sig) → Buf (Elt Ideal) ℓ) (g : Dev Cert.ProjKvSIdeal.nD → PrngReg), Pre_ProjKvSIdeal m →
    θ_run (Cert.ProjKvSIdeal.defs (F := Ideal)) (onTc (τ := Cert.ProjKvSIdeal.τ) (Cert.ProjKvSIdeal.main (F := Ideal))) ⟨m, fun _ => 0, g⟩ (fun r => (∀ c : Dev Cert.ProjKvSIdeal.nD,
      r.2.mem ((c.tc : Thread Cert.ProjKvSIdeal.nD Cert.ProjKvSIdeal.τ).loc Cert.ProjKvSIdeal.main_arg0) = m ((c.tc : Thread Cert.ProjKvSIdeal.nD Cert.ProjKvSIdeal.τ).loc Cert.ProjKvSIdeal.main_arg0)
      ∧ r.2.mem ((c.tc : Thread Cert.ProjKvSIdeal.nD Cert.ProjKvSIdeal.τ).loc Cert.ProjKvSIdeal.main_arg1) = m ((c.tc : Thread Cert.ProjKvSIdeal.nD Cert.ProjKvSIdeal.τ).loc Cert.ProjKvSIdeal.main_arg1))
      ∧ r.2.sem = fun _ => 0)

def quiescent_ProjKvSRefIdeal [hProjKvSRefIdeal : Cert.ProjKvSRefIdeal.Facts] : Prop :=
  ∀ (m : (ℓ : Loc Cert.ProjKvSRefIdeal.nD Cert.ProjKvSRefIdeal.τ Cert.ProjKvSRefIdeal.sig) → Buf (Elt Ideal) ℓ) (g : Dev Cert.ProjKvSRefIdeal.nD → PrngReg), Pre_ProjKvSRefIdeal m →
    θ_run (Cert.ProjKvSRefIdeal.defs (F := Ideal)) (onTc (τ := Cert.ProjKvSRefIdeal.τ) (Cert.ProjKvSRefIdeal.main (F := Ideal))) ⟨m, fun _ => 0, g⟩ (fun r => (∀ c : Dev Cert.ProjKvSRefIdeal.nD,
      r.2.mem ((c.tc : Thread Cert.ProjKvSRefIdeal.nD Cert.ProjKvSRefIdeal.τ).loc Cert.ProjKvSRefIdeal.main_arg0) = m ((c.tc : Thread Cert.ProjKvSRefIdeal.nD Cert.ProjKvSRefIdeal.τ).loc Cert.ProjKvSRefIdeal.main_arg0)
      ∧ r.2.mem ((c.tc : Thread Cert.ProjKvSRefIdeal.nD Cert.ProjKvSRefIdeal.τ).loc Cert.ProjKvSRefIdeal.main_arg1) = m ((c.tc : Thread Cert.ProjKvSRefIdeal.nD Cert.ProjKvSRefIdeal.τ).loc Cert.ProjKvSRefIdeal.main_arg1))
      ∧ r.2.sem = fun _ => 0)

def quiescent_ProjVsS [hProjVsS : Cert.ProjVsS.Facts] : Prop :=
  ∀ (m : (ℓ : Loc Cert.ProjVsS.nD Cert.ProjVsS.τ Cert.ProjVsS.sig) → Buf (Elt Bits) ℓ) (g : Dev Cert.ProjVsS.nD → PrngReg), Pre_ProjVsS m →
    θ_run (Cert.ProjVsS.defs (F := Bits)) (onTc (τ := Cert.ProjVsS.τ) (Cert.ProjVsS.main (F := Bits))) ⟨m, fun _ => 0, g⟩ (fun r => (∀ c : Dev Cert.ProjVsS.nD,
      r.2.mem ((c.tc : Thread Cert.ProjVsS.nD Cert.ProjVsS.τ).loc Cert.ProjVsS.main_arg0) = m ((c.tc : Thread Cert.ProjVsS.nD Cert.ProjVsS.τ).loc Cert.ProjVsS.main_arg0)
      ∧ r.2.mem ((c.tc : Thread Cert.ProjVsS.nD Cert.ProjVsS.τ).loc Cert.ProjVsS.main_arg1) = m ((c.tc : Thread Cert.ProjVsS.nD Cert.ProjVsS.τ).loc Cert.ProjVsS.main_arg1)
      ∧ r.2.mem ((c.tc : Thread Cert.ProjVsS.nD Cert.ProjVsS.τ).loc Cert.ProjVsS.main_arg2) = m ((c.tc : Thread Cert.ProjVsS.nD Cert.ProjVsS.τ).loc Cert.ProjVsS.main_arg2))
      ∧ r.2.sem = fun _ => 0)

def quiescent_ProjVsSIdeal [hProjVsSIdeal : Cert.ProjVsSIdeal.Facts] : Prop :=
  ∀ (m : (ℓ : Loc Cert.ProjVsSIdeal.nD Cert.ProjVsSIdeal.τ Cert.ProjVsSIdeal.sig) → Buf (Elt Ideal) ℓ) (g : Dev Cert.ProjVsSIdeal.nD → PrngReg), Pre_ProjVsSIdeal m →
    θ_run (Cert.ProjVsSIdeal.defs (F := Ideal)) (onTc (τ := Cert.ProjVsSIdeal.τ) (Cert.ProjVsSIdeal.main (F := Ideal))) ⟨m, fun _ => 0, g⟩ (fun r => (∀ c : Dev Cert.ProjVsSIdeal.nD,
      r.2.mem ((c.tc : Thread Cert.ProjVsSIdeal.nD Cert.ProjVsSIdeal.τ).loc Cert.ProjVsSIdeal.main_arg0) = m ((c.tc : Thread Cert.ProjVsSIdeal.nD Cert.ProjVsSIdeal.τ).loc Cert.ProjVsSIdeal.main_arg0)
      ∧ r.2.mem ((c.tc : Thread Cert.ProjVsSIdeal.nD Cert.ProjVsSIdeal.τ).loc Cert.ProjVsSIdeal.main_arg1) = m ((c.tc : Thread Cert.ProjVsSIdeal.nD Cert.ProjVsSIdeal.τ).loc Cert.ProjVsSIdeal.main_arg1)
      ∧ r.2.mem ((c.tc : Thread Cert.ProjVsSIdeal.nD Cert.ProjVsSIdeal.τ).loc Cert.ProjVsSIdeal.main_arg2) = m ((c.tc : Thread Cert.ProjVsSIdeal.nD Cert.ProjVsSIdeal.τ).loc Cert.ProjVsSIdeal.main_arg2))
      ∧ r.2.sem = fun _ => 0)

def quiescent_ProjVsSRefIdeal [hProjVsSRefIdeal : Cert.ProjVsSRefIdeal.Facts] : Prop :=
  ∀ (m : (ℓ : Loc Cert.ProjVsSRefIdeal.nD Cert.ProjVsSRefIdeal.τ Cert.ProjVsSRefIdeal.sig) → Buf (Elt Ideal) ℓ) (g : Dev Cert.ProjVsSRefIdeal.nD → PrngReg), Pre_ProjVsSRefIdeal m →
    θ_run (Cert.ProjVsSRefIdeal.defs (F := Ideal)) (onTc (τ := Cert.ProjVsSRefIdeal.τ) (Cert.ProjVsSRefIdeal.main (F := Ideal))) ⟨m, fun _ => 0, g⟩ (fun r => (∀ c : Dev Cert.ProjVsSRefIdeal.nD,
      r.2.mem ((c.tc : Thread Cert.ProjVsSRefIdeal.nD Cert.ProjVsSRefIdeal.τ).loc Cert.ProjVsSRefIdeal.main_arg0) = m ((c.tc : Thread Cert.ProjVsSRefIdeal.nD Cert.ProjVsSRefIdeal.τ).loc Cert.ProjVsSRefIdeal.main_arg0)
      ∧ r.2.mem ((c.tc : Thread Cert.ProjVsSRefIdeal.nD Cert.ProjVsSRefIdeal.τ).loc Cert.ProjVsSRefIdeal.main_arg1) = m ((c.tc : Thread Cert.ProjVsSRefIdeal.nD Cert.ProjVsSRefIdeal.τ).loc Cert.ProjVsSRefIdeal.main_arg1)
      ∧ r.2.mem ((c.tc : Thread Cert.ProjVsSRefIdeal.nD Cert.ProjVsSRefIdeal.τ).loc Cert.ProjVsSRefIdeal.main_arg2) = m ((c.tc : Thread Cert.ProjVsSRefIdeal.nD Cert.ProjVsSRefIdeal.τ).loc Cert.ProjVsSRefIdeal.main_arg2))
      ∧ r.2.sem = fun _ => 0)

def quiescent_PeerExperts [hPeerExperts : Cert.PeerExperts.Facts] : Prop :=
  ∀ (m : (ℓ : Loc Cert.PeerExperts.nD Cert.PeerExperts.τ Cert.PeerExperts.sig) → Buf (Elt Bits) ℓ) (g : Dev Cert.PeerExperts.nD → PrngReg), Pre_PeerExperts m →
    θ_run (Cert.PeerExperts.defs (F := Bits)) (onTc (τ := Cert.PeerExperts.τ) (Cert.PeerExperts.main (F := Bits))) ⟨m, fun _ => 0, g⟩ (fun r => (∀ c : Dev Cert.PeerExperts.nD,
      r.2.mem ((c.tc : Thread Cert.PeerExperts.nD Cert.PeerExperts.τ).loc Cert.PeerExperts.main_arg0) = m ((c.tc : Thread Cert.PeerExperts.nD Cert.PeerExperts.τ).loc Cert.PeerExperts.main_arg0)
      ∧ r.2.mem ((c.tc : Thread Cert.PeerExperts.nD Cert.PeerExperts.τ).loc Cert.PeerExperts.main_arg1) = m ((c.tc : Thread Cert.PeerExperts.nD Cert.PeerExperts.τ).loc Cert.PeerExperts.main_arg1)
      ∧ r.2.mem ((c.tc : Thread Cert.PeerExperts.nD Cert.PeerExperts.τ).loc Cert.PeerExperts.main_arg2) = m ((c.tc : Thread Cert.PeerExperts.nD Cert.PeerExperts.τ).loc Cert.PeerExperts.main_arg2)
      ∧ r.2.mem ((c.tc : Thread Cert.PeerExperts.nD Cert.PeerExperts.τ).loc Cert.PeerExperts.main_arg3) = m ((c.tc : Thread Cert.PeerExperts.nD Cert.PeerExperts.τ).loc Cert.PeerExperts.main_arg3)
      ∧ r.2.mem ((c.tc : Thread Cert.PeerExperts.nD Cert.PeerExperts.τ).loc Cert.PeerExperts.main_arg4) = m ((c.tc : Thread Cert.PeerExperts.nD Cert.PeerExperts.τ).loc Cert.PeerExperts.main_arg4)
      ∧ r.2.mem ((c.tc : Thread Cert.PeerExperts.nD Cert.PeerExperts.τ).loc Cert.PeerExperts.main_arg5) = m ((c.tc : Thread Cert.PeerExperts.nD Cert.PeerExperts.τ).loc Cert.PeerExperts.main_arg5)
      ∧ r.2.mem ((c.tc : Thread Cert.PeerExperts.nD Cert.PeerExperts.τ).loc Cert.PeerExperts.main_arg6) = m ((c.tc : Thread Cert.PeerExperts.nD Cert.PeerExperts.τ).loc Cert.PeerExperts.main_arg6)
      ∧ r.2.mem ((c.tc : Thread Cert.PeerExperts.nD Cert.PeerExperts.τ).loc Cert.PeerExperts.main_arg7) = m ((c.tc : Thread Cert.PeerExperts.nD Cert.PeerExperts.τ).loc Cert.PeerExperts.main_arg7)
      ∧ r.2.mem ((c.tc : Thread Cert.PeerExperts.nD Cert.PeerExperts.τ).loc Cert.PeerExperts.main_arg8) = m ((c.tc : Thread Cert.PeerExperts.nD Cert.PeerExperts.τ).loc Cert.PeerExperts.main_arg8))
      ∧ r.2.sem = fun _ => 0)

def quiescent_PeerExpertsIdeal [hPeerExpertsIdeal : Cert.PeerExpertsIdeal.Facts] : Prop :=
  ∀ (m : (ℓ : Loc Cert.PeerExpertsIdeal.nD Cert.PeerExpertsIdeal.τ Cert.PeerExpertsIdeal.sig) → Buf (Elt Ideal) ℓ) (g : Dev Cert.PeerExpertsIdeal.nD → PrngReg), Pre_PeerExpertsIdeal m →
    θ_run (Cert.PeerExpertsIdeal.defs (F := Ideal)) (onTc (τ := Cert.PeerExpertsIdeal.τ) (Cert.PeerExpertsIdeal.main (F := Ideal))) ⟨m, fun _ => 0, g⟩ (fun r => (∀ c : Dev Cert.PeerExpertsIdeal.nD,
      r.2.mem ((c.tc : Thread Cert.PeerExpertsIdeal.nD Cert.PeerExpertsIdeal.τ).loc Cert.PeerExpertsIdeal.main_arg0) = m ((c.tc : Thread Cert.PeerExpertsIdeal.nD Cert.PeerExpertsIdeal.τ).loc Cert.PeerExpertsIdeal.main_arg0)
      ∧ r.2.mem ((c.tc : Thread Cert.PeerExpertsIdeal.nD Cert.PeerExpertsIdeal.τ).loc Cert.PeerExpertsIdeal.main_arg1) = m ((c.tc : Thread Cert.PeerExpertsIdeal.nD Cert.PeerExpertsIdeal.τ).loc Cert.PeerExpertsIdeal.main_arg1)
      ∧ r.2.mem ((c.tc : Thread Cert.PeerExpertsIdeal.nD Cert.PeerExpertsIdeal.τ).loc Cert.PeerExpertsIdeal.main_arg2) = m ((c.tc : Thread Cert.PeerExpertsIdeal.nD Cert.PeerExpertsIdeal.τ).loc Cert.PeerExpertsIdeal.main_arg2)
      ∧ r.2.mem ((c.tc : Thread Cert.PeerExpertsIdeal.nD Cert.PeerExpertsIdeal.τ).loc Cert.PeerExpertsIdeal.main_arg3) = m ((c.tc : Thread Cert.PeerExpertsIdeal.nD Cert.PeerExpertsIdeal.τ).loc Cert.PeerExpertsIdeal.main_arg3)
      ∧ r.2.mem ((c.tc : Thread Cert.PeerExpertsIdeal.nD Cert.PeerExpertsIdeal.τ).loc Cert.PeerExpertsIdeal.main_arg4) = m ((c.tc : Thread Cert.PeerExpertsIdeal.nD Cert.PeerExpertsIdeal.τ).loc Cert.PeerExpertsIdeal.main_arg4)
      ∧ r.2.mem ((c.tc : Thread Cert.PeerExpertsIdeal.nD Cert.PeerExpertsIdeal.τ).loc Cert.PeerExpertsIdeal.main_arg5) = m ((c.tc : Thread Cert.PeerExpertsIdeal.nD Cert.PeerExpertsIdeal.τ).loc Cert.PeerExpertsIdeal.main_arg5)
      ∧ r.2.mem ((c.tc : Thread Cert.PeerExpertsIdeal.nD Cert.PeerExpertsIdeal.τ).loc Cert.PeerExpertsIdeal.main_arg6) = m ((c.tc : Thread Cert.PeerExpertsIdeal.nD Cert.PeerExpertsIdeal.τ).loc Cert.PeerExpertsIdeal.main_arg6)
      ∧ r.2.mem ((c.tc : Thread Cert.PeerExpertsIdeal.nD Cert.PeerExpertsIdeal.τ).loc Cert.PeerExpertsIdeal.main_arg7) = m ((c.tc : Thread Cert.PeerExpertsIdeal.nD Cert.PeerExpertsIdeal.τ).loc Cert.PeerExpertsIdeal.main_arg7)
      ∧ r.2.mem ((c.tc : Thread Cert.PeerExpertsIdeal.nD Cert.PeerExpertsIdeal.τ).loc Cert.PeerExpertsIdeal.main_arg8) = m ((c.tc : Thread Cert.PeerExpertsIdeal.nD Cert.PeerExpertsIdeal.τ).loc Cert.PeerExpertsIdeal.main_arg8))
      ∧ r.2.sem = fun _ => 0)

def quiescent_PeerExpertsIdeal_pre_finite_experts [hPeerExpertsIdeal : Cert.PeerExpertsIdeal.Facts] [hPre_finite_experts : Cert.Pre_finite_experts.Facts] : Prop :=
  ∀ (m : (ℓ : Loc Cert.PeerExpertsIdeal.nD Cert.PeerExpertsIdeal.τ Cert.PeerExpertsIdeal.sig) → Buf (Elt Ideal) ℓ) (g : Dev Cert.PeerExpertsIdeal.nD → PrngReg), Pre_PeerExpertsIdeal_finite_experts m →
    θ_run (Cert.PeerExpertsIdeal.defs (F := Ideal)) (onTc (τ := Cert.PeerExpertsIdeal.τ) (Cert.PeerExpertsIdeal.main (F := Ideal))) ⟨m, fun _ => 0, g⟩ (fun r => (∀ c : Dev Cert.PeerExpertsIdeal.nD,
      r.2.mem ((c.tc : Thread Cert.PeerExpertsIdeal.nD Cert.PeerExpertsIdeal.τ).loc Cert.PeerExpertsIdeal.main_arg0) = m ((c.tc : Thread Cert.PeerExpertsIdeal.nD Cert.PeerExpertsIdeal.τ).loc Cert.PeerExpertsIdeal.main_arg0)
      ∧ r.2.mem ((c.tc : Thread Cert.PeerExpertsIdeal.nD Cert.PeerExpertsIdeal.τ).loc Cert.PeerExpertsIdeal.main_arg1) = m ((c.tc : Thread Cert.PeerExpertsIdeal.nD Cert.PeerExpertsIdeal.τ).loc Cert.PeerExpertsIdeal.main_arg1)
      ∧ r.2.mem ((c.tc : Thread Cert.PeerExpertsIdeal.nD Cert.PeerExpertsIdeal.τ).loc Cert.PeerExpertsIdeal.main_arg2) = m ((c.tc : Thread Cert.PeerExpertsIdeal.nD Cert.PeerExpertsIdeal.τ).loc Cert.PeerExpertsIdeal.main_arg2)
      ∧ r.2.mem ((c.tc : Thread Cert.PeerExpertsIdeal.nD Cert.PeerExpertsIdeal.τ).loc Cert.PeerExpertsIdeal.main_arg3) = m ((c.tc : Thread Cert.PeerExpertsIdeal.nD Cert.PeerExpertsIdeal.τ).loc Cert.PeerExpertsIdeal.main_arg3)
      ∧ r.2.mem ((c.tc : Thread Cert.PeerExpertsIdeal.nD Cert.PeerExpertsIdeal.τ).loc Cert.PeerExpertsIdeal.main_arg4) = m ((c.tc : Thread Cert.PeerExpertsIdeal.nD Cert.PeerExpertsIdeal.τ).loc Cert.PeerExpertsIdeal.main_arg4)
      ∧ r.2.mem ((c.tc : Thread Cert.PeerExpertsIdeal.nD Cert.PeerExpertsIdeal.τ).loc Cert.PeerExpertsIdeal.main_arg5) = m ((c.tc : Thread Cert.PeerExpertsIdeal.nD Cert.PeerExpertsIdeal.τ).loc Cert.PeerExpertsIdeal.main_arg5)
      ∧ r.2.mem ((c.tc : Thread Cert.PeerExpertsIdeal.nD Cert.PeerExpertsIdeal.τ).loc Cert.PeerExpertsIdeal.main_arg6) = m ((c.tc : Thread Cert.PeerExpertsIdeal.nD Cert.PeerExpertsIdeal.τ).loc Cert.PeerExpertsIdeal.main_arg6)
      ∧ r.2.mem ((c.tc : Thread Cert.PeerExpertsIdeal.nD Cert.PeerExpertsIdeal.τ).loc Cert.PeerExpertsIdeal.main_arg7) = m ((c.tc : Thread Cert.PeerExpertsIdeal.nD Cert.PeerExpertsIdeal.τ).loc Cert.PeerExpertsIdeal.main_arg7)
      ∧ r.2.mem ((c.tc : Thread Cert.PeerExpertsIdeal.nD Cert.PeerExpertsIdeal.τ).loc Cert.PeerExpertsIdeal.main_arg8) = m ((c.tc : Thread Cert.PeerExpertsIdeal.nD Cert.PeerExpertsIdeal.τ).loc Cert.PeerExpertsIdeal.main_arg8))
      ∧ r.2.sem = fun _ => 0)

def quiescent_PeerExpertsRefIdeal [hPeerExpertsRefIdeal : Cert.PeerExpertsRefIdeal.Facts] : Prop :=
  ∀ (m : (ℓ : Loc Cert.PeerExpertsRefIdeal.nD Cert.PeerExpertsRefIdeal.τ Cert.PeerExpertsRefIdeal.sig) → Buf (Elt Ideal) ℓ) (g : Dev Cert.PeerExpertsRefIdeal.nD → PrngReg), Pre_PeerExpertsRefIdeal m →
    θ_run (Cert.PeerExpertsRefIdeal.defs (F := Ideal)) (onTc (τ := Cert.PeerExpertsRefIdeal.τ) (Cert.PeerExpertsRefIdeal.main (F := Ideal))) ⟨m, fun _ => 0, g⟩ (fun r => (∀ c : Dev Cert.PeerExpertsRefIdeal.nD,
      r.2.mem ((c.tc : Thread Cert.PeerExpertsRefIdeal.nD Cert.PeerExpertsRefIdeal.τ).loc Cert.PeerExpertsRefIdeal.main_arg0) = m ((c.tc : Thread Cert.PeerExpertsRefIdeal.nD Cert.PeerExpertsRefIdeal.τ).loc Cert.PeerExpertsRefIdeal.main_arg0)
      ∧ r.2.mem ((c.tc : Thread Cert.PeerExpertsRefIdeal.nD Cert.PeerExpertsRefIdeal.τ).loc Cert.PeerExpertsRefIdeal.main_arg1) = m ((c.tc : Thread Cert.PeerExpertsRefIdeal.nD Cert.PeerExpertsRefIdeal.τ).loc Cert.PeerExpertsRefIdeal.main_arg1)
      ∧ r.2.mem ((c.tc : Thread Cert.PeerExpertsRefIdeal.nD Cert.PeerExpertsRefIdeal.τ).loc Cert.PeerExpertsRefIdeal.main_arg2) = m ((c.tc : Thread Cert.PeerExpertsRefIdeal.nD Cert.PeerExpertsRefIdeal.τ).loc Cert.PeerExpertsRefIdeal.main_arg2)
      ∧ r.2.mem ((c.tc : Thread Cert.PeerExpertsRefIdeal.nD Cert.PeerExpertsRefIdeal.τ).loc Cert.PeerExpertsRefIdeal.main_arg3) = m ((c.tc : Thread Cert.PeerExpertsRefIdeal.nD Cert.PeerExpertsRefIdeal.τ).loc Cert.PeerExpertsRefIdeal.main_arg3)
      ∧ r.2.mem ((c.tc : Thread Cert.PeerExpertsRefIdeal.nD Cert.PeerExpertsRefIdeal.τ).loc Cert.PeerExpertsRefIdeal.main_arg4) = m ((c.tc : Thread Cert.PeerExpertsRefIdeal.nD Cert.PeerExpertsRefIdeal.τ).loc Cert.PeerExpertsRefIdeal.main_arg4)
      ∧ r.2.mem ((c.tc : Thread Cert.PeerExpertsRefIdeal.nD Cert.PeerExpertsRefIdeal.τ).loc Cert.PeerExpertsRefIdeal.main_arg5) = m ((c.tc : Thread Cert.PeerExpertsRefIdeal.nD Cert.PeerExpertsRefIdeal.τ).loc Cert.PeerExpertsRefIdeal.main_arg5)
      ∧ r.2.mem ((c.tc : Thread Cert.PeerExpertsRefIdeal.nD Cert.PeerExpertsRefIdeal.τ).loc Cert.PeerExpertsRefIdeal.main_arg6) = m ((c.tc : Thread Cert.PeerExpertsRefIdeal.nD Cert.PeerExpertsRefIdeal.τ).loc Cert.PeerExpertsRefIdeal.main_arg6)
      ∧ r.2.mem ((c.tc : Thread Cert.PeerExpertsRefIdeal.nD Cert.PeerExpertsRefIdeal.τ).loc Cert.PeerExpertsRefIdeal.main_arg7) = m ((c.tc : Thread Cert.PeerExpertsRefIdeal.nD Cert.PeerExpertsRefIdeal.τ).loc Cert.PeerExpertsRefIdeal.main_arg7)
      ∧ r.2.mem ((c.tc : Thread Cert.PeerExpertsRefIdeal.nD Cert.PeerExpertsRefIdeal.τ).loc Cert.PeerExpertsRefIdeal.main_arg8) = m ((c.tc : Thread Cert.PeerExpertsRefIdeal.nD Cert.PeerExpertsRefIdeal.τ).loc Cert.PeerExpertsRefIdeal.main_arg8))
      ∧ r.2.sem = fun _ => 0)

def quiescent_PeerExpertsRefIdeal_pre_finite_experts [hPeerExpertsRefIdeal : Cert.PeerExpertsRefIdeal.Facts] [hPre_finite_experts : Cert.Pre_finite_experts.Facts] : Prop :=
  ∀ (m : (ℓ : Loc Cert.PeerExpertsRefIdeal.nD Cert.PeerExpertsRefIdeal.τ Cert.PeerExpertsRefIdeal.sig) → Buf (Elt Ideal) ℓ) (g : Dev Cert.PeerExpertsRefIdeal.nD → PrngReg), Pre_PeerExpertsRefIdeal_finite_experts m →
    θ_run (Cert.PeerExpertsRefIdeal.defs (F := Ideal)) (onTc (τ := Cert.PeerExpertsRefIdeal.τ) (Cert.PeerExpertsRefIdeal.main (F := Ideal))) ⟨m, fun _ => 0, g⟩ (fun r => (∀ c : Dev Cert.PeerExpertsRefIdeal.nD,
      r.2.mem ((c.tc : Thread Cert.PeerExpertsRefIdeal.nD Cert.PeerExpertsRefIdeal.τ).loc Cert.PeerExpertsRefIdeal.main_arg0) = m ((c.tc : Thread Cert.PeerExpertsRefIdeal.nD Cert.PeerExpertsRefIdeal.τ).loc Cert.PeerExpertsRefIdeal.main_arg0)
      ∧ r.2.mem ((c.tc : Thread Cert.PeerExpertsRefIdeal.nD Cert.PeerExpertsRefIdeal.τ).loc Cert.PeerExpertsRefIdeal.main_arg1) = m ((c.tc : Thread Cert.PeerExpertsRefIdeal.nD Cert.PeerExpertsRefIdeal.τ).loc Cert.PeerExpertsRefIdeal.main_arg1)
      ∧ r.2.mem ((c.tc : Thread Cert.PeerExpertsRefIdeal.nD Cert.PeerExpertsRefIdeal.τ).loc Cert.PeerExpertsRefIdeal.main_arg2) = m ((c.tc : Thread Cert.PeerExpertsRefIdeal.nD Cert.PeerExpertsRefIdeal.τ).loc Cert.PeerExpertsRefIdeal.main_arg2)
      ∧ r.2.mem ((c.tc : Thread Cert.PeerExpertsRefIdeal.nD Cert.PeerExpertsRefIdeal.τ).loc Cert.PeerExpertsRefIdeal.main_arg3) = m ((c.tc : Thread Cert.PeerExpertsRefIdeal.nD Cert.PeerExpertsRefIdeal.τ).loc Cert.PeerExpertsRefIdeal.main_arg3)
      ∧ r.2.mem ((c.tc : Thread Cert.PeerExpertsRefIdeal.nD Cert.PeerExpertsRefIdeal.τ).loc Cert.PeerExpertsRefIdeal.main_arg4) = m ((c.tc : Thread Cert.PeerExpertsRefIdeal.nD Cert.PeerExpertsRefIdeal.τ).loc Cert.PeerExpertsRefIdeal.main_arg4)
      ∧ r.2.mem ((c.tc : Thread Cert.PeerExpertsRefIdeal.nD Cert.PeerExpertsRefIdeal.τ).loc Cert.PeerExpertsRefIdeal.main_arg5) = m ((c.tc : Thread Cert.PeerExpertsRefIdeal.nD Cert.PeerExpertsRefIdeal.τ).loc Cert.PeerExpertsRefIdeal.main_arg5)
      ∧ r.2.mem ((c.tc : Thread Cert.PeerExpertsRefIdeal.nD Cert.PeerExpertsRefIdeal.τ).loc Cert.PeerExpertsRefIdeal.main_arg6) = m ((c.tc : Thread Cert.PeerExpertsRefIdeal.nD Cert.PeerExpertsRefIdeal.τ).loc Cert.PeerExpertsRefIdeal.main_arg6)
      ∧ r.2.mem ((c.tc : Thread Cert.PeerExpertsRefIdeal.nD Cert.PeerExpertsRefIdeal.τ).loc Cert.PeerExpertsRefIdeal.main_arg7) = m ((c.tc : Thread Cert.PeerExpertsRefIdeal.nD Cert.PeerExpertsRefIdeal.τ).loc Cert.PeerExpertsRefIdeal.main_arg7)
      ∧ r.2.mem ((c.tc : Thread Cert.PeerExpertsRefIdeal.nD Cert.PeerExpertsRefIdeal.τ).loc Cert.PeerExpertsRefIdeal.main_arg8) = m ((c.tc : Thread Cert.PeerExpertsRefIdeal.nD Cert.PeerExpertsRefIdeal.τ).loc Cert.PeerExpertsRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_NormQ_NormQIdeal : Prop :=
  True

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)
      ∧ m' ((c.tc : Thread Cert.NormQRefIdeal.nD Cert.NormQRefIdeal.τ).loc Cert.NormQRefIdeal.main_arg2) = m ((c.tc : Thread Cert.NormQIdeal.nD Cert.NormQIdeal.τ).loc Cert.NormQIdeal.main_arg2)) →
    ∃ (v0 : (c : Dev Cert.NormQIdeal.nD) → Buf (Elt Ideal) ((c.tc : Thread Cert.NormQIdeal.nD Cert.NormQIdeal.τ).loc Cert.NormQIdeal.main_v4_0)) (v1 : (c : Dev Cert.NormQIdeal.nD) → Buf (Elt Ideal) ((c.tc : Thread Cert.NormQIdeal.nD Cert.NormQIdeal.τ).loc Cert.NormQIdeal.main_v4_1)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v4_0) = v0 c
          ∧ r.2.mem ((c.tc : Thread Cert.NormQIdeal.nD Cert.NormQIdeal.τ).loc Cert.NormQIdeal.main_v4_1) = v1 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
          ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v16) = v0 c
          ∧ r.2.mem ((c.tc : Thread Cert.NormQRefIdeal.nD Cert.NormQRefIdeal.τ).loc Cert.NormQRefIdeal.main_v20) = v1 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1)
          ∧ r.2.mem ((c.tc : Thread Cert.NormQRefIdeal.nD Cert.NormQRefIdeal.τ).loc Cert.NormQRefIdeal.main_arg2) = m' ((c.tc : Thread Cert.NormQRefIdeal.nD Cert.NormQRefIdeal.τ).loc Cert.NormQRefIdeal.main_arg2))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v2)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v2) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v2) = v0 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1))

def preserves_ProjU_ProjUIdeal : Prop :=
  True

def algebraic_ProjUIdeal_ProjURefIdeal [hProjUIdeal : Cert.ProjUIdeal.Facts] [hProjURefIdeal : Cert.ProjURefIdeal.Facts] : Prop :=
  ∀ (m : (ℓ : Loc Cert.ProjUIdeal.nD Cert.ProjUIdeal.τ Cert.ProjUIdeal.sig) → Buf (Elt Ideal) ℓ) (g : Dev Cert.ProjUIdeal.nD → PrngReg)
    (m' : (ℓ : Loc Cert.ProjURefIdeal.nD Cert.ProjURefIdeal.τ Cert.ProjURefIdeal.sig) → Buf (Elt Ideal) ℓ) (g' : Dev Cert.ProjURefIdeal.nD → PrngReg), Pre_ProjUIdeal m →
    (∀ c : Dev Cert.ProjUIdeal.nD,
      m' ((c.tc : Thread Cert.ProjURefIdeal.nD Cert.ProjURefIdeal.τ).loc Cert.ProjURefIdeal.main_arg0) = m ((c.tc : Thread Cert.ProjUIdeal.nD Cert.ProjUIdeal.τ).loc Cert.ProjUIdeal.main_arg0)
      ∧ m' ((c.tc : Thread Cert.ProjURefIdeal.nD Cert.ProjURefIdeal.τ).loc Cert.ProjURefIdeal.main_arg1) = m ((c.tc : Thread Cert.ProjUIdeal.nD Cert.ProjUIdeal.τ).loc Cert.ProjUIdeal.main_arg1)) →
    ∃ (v0 : (c : Dev Cert.ProjUIdeal.nD) → Buf (Elt Ideal) ((c.tc : Thread Cert.ProjUIdeal.nD Cert.ProjUIdeal.τ).loc Cert.ProjUIdeal.main_v2)),
      θ_run (Cert.ProjUIdeal.defs (F := Ideal)) (onTc (τ := Cert.ProjUIdeal.τ) (Cert.ProjUIdeal.main (F := Ideal))) ⟨m, fun _ => 0, g⟩ (fun r => ∀ c : Dev Cert.ProjUIdeal.nD,
          r.2.mem ((c.tc : Thread Cert.ProjUIdeal.nD Cert.ProjUIdeal.τ).loc Cert.ProjUIdeal.main_v2) = v0 c
          ∧ r.2.mem ((c.tc : Thread Cert.ProjUIdeal.nD Cert.ProjUIdeal.τ).loc Cert.ProjUIdeal.main_arg0) = m ((c.tc : Thread Cert.ProjUIdeal.nD Cert.ProjUIdeal.τ).loc Cert.ProjUIdeal.main_arg0)
          ∧ r.2.mem ((c.tc : Thread Cert.ProjUIdeal.nD Cert.ProjUIdeal.τ).loc Cert.ProjUIdeal.main_arg1) = m ((c.tc : Thread Cert.ProjUIdeal.nD Cert.ProjUIdeal.τ).loc Cert.ProjUIdeal.main_arg1))
      ∧ θ_run (Cert.ProjURefIdeal.defs (F := Ideal)) (onTc (τ := Cert.ProjURefIdeal.τ) (Cert.ProjURefIdeal.main (F := Ideal))) ⟨m', fun _ => 0, g'⟩ (fun r => ∀ c : Dev Cert.ProjURefIdeal.nD,
          r.2.mem ((c.tc : Thread Cert.ProjURefIdeal.nD Cert.ProjURefIdeal.τ).loc Cert.ProjURefIdeal.main_v16) = v0 c
          ∧ r.2.mem ((c.tc : Thread Cert.ProjURefIdeal.nD Cert.ProjURefIdeal.τ).loc Cert.ProjURefIdeal.main_arg0) = m' ((c.tc : Thread Cert.ProjURefIdeal.nD Cert.ProjURefIdeal.τ).loc Cert.ProjURefIdeal.main_arg0)
          ∧ r.2.mem ((c.tc : Thread Cert.ProjURefIdeal.nD Cert.ProjURefIdeal.τ).loc Cert.ProjURefIdeal.main_arg1) = m' ((c.tc : Thread Cert.ProjURefIdeal.nD Cert.ProjURefIdeal.τ).loc Cert.ProjURefIdeal.main_arg1))

def preserves_ProjVs_ProjVsIdeal : Prop :=
  True

def algebraic_ProjVsIdeal_ProjVsRefIdeal [hProjVsIdeal : Cert.ProjVsIdeal.Facts] [hProjVsRefIdeal : Cert.ProjVsRefIdeal.Facts] : Prop :=
  ∀ (m : (ℓ : Loc Cert.ProjVsIdeal.nD Cert.ProjVsIdeal.τ Cert.ProjVsIdeal.sig) → Buf (Elt Ideal) ℓ) (g : Dev Cert.ProjVsIdeal.nD → PrngReg)
    (m' : (ℓ : Loc Cert.ProjVsRefIdeal.nD Cert.ProjVsRefIdeal.τ Cert.ProjVsRefIdeal.sig) → Buf (Elt Ideal) ℓ) (g' : Dev Cert.ProjVsRefIdeal.nD → PrngReg), Pre_ProjVsIdeal m →
    (∀ c : Dev Cert.ProjVsIdeal.nD,
      m' ((c.tc : Thread Cert.ProjVsRefIdeal.nD Cert.ProjVsRefIdeal.τ).loc Cert.ProjVsRefIdeal.main_arg0) = m ((c.tc : Thread Cert.ProjVsIdeal.nD Cert.ProjVsIdeal.τ).loc Cert.ProjVsIdeal.main_arg0)
      ∧ m' ((c.tc : Thread Cert.ProjVsRefIdeal.nD Cert.ProjVsRefIdeal.τ).loc Cert.ProjVsRefIdeal.main_arg1) = m ((c.tc : Thread Cert.ProjVsIdeal.nD Cert.ProjVsIdeal.τ).loc Cert.ProjVsIdeal.main_arg1)
      ∧ m' ((c.tc : Thread Cert.ProjVsRefIdeal.nD Cert.ProjVsRefIdeal.τ).loc Cert.ProjVsRefIdeal.main_arg2) = m ((c.tc : Thread Cert.ProjVsIdeal.nD Cert.ProjVsIdeal.τ).loc Cert.ProjVsIdeal.main_arg2)) →
    ∃ (v0 : (c : Dev Cert.ProjVsIdeal.nD) → Buf (Elt Ideal) ((c.tc : Thread Cert.ProjVsIdeal.nD Cert.ProjVsIdeal.τ).loc Cert.ProjVsIdeal.main_v3)),
      θ_run (Cert.ProjVsIdeal.defs (F := Ideal)) (onTc (τ := Cert.ProjVsIdeal.τ) (Cert.ProjVsIdeal.main (F := Ideal))) ⟨m, fun _ => 0, g⟩ (fun r => ∀ c : Dev Cert.ProjVsIdeal.nD,
          r.2.mem ((c.tc : Thread Cert.ProjVsIdeal.nD Cert.ProjVsIdeal.τ).loc Cert.ProjVsIdeal.main_v3) = v0 c
          ∧ r.2.mem ((c.tc : Thread Cert.ProjVsIdeal.nD Cert.ProjVsIdeal.τ).loc Cert.ProjVsIdeal.main_arg0) = m ((c.tc : Thread Cert.ProjVsIdeal.nD Cert.ProjVsIdeal.τ).loc Cert.ProjVsIdeal.main_arg0)
          ∧ r.2.mem ((c.tc : Thread Cert.ProjVsIdeal.nD Cert.ProjVsIdeal.τ).loc Cert.ProjVsIdeal.main_arg1) = m ((c.tc : Thread Cert.ProjVsIdeal.nD Cert.ProjVsIdeal.τ).loc Cert.ProjVsIdeal.main_arg1)
          ∧ r.2.mem ((c.tc : Thread Cert.ProjVsIdeal.nD Cert.ProjVsIdeal.τ).loc Cert.ProjVsIdeal.main_arg2) = m ((c.tc : Thread Cert.ProjVsIdeal.nD Cert.ProjVsIdeal.τ).loc Cert.ProjVsIdeal.main_arg2))
      ∧ θ_run (Cert.ProjVsRefIdeal.defs (F := Ideal)) (onTc (τ := Cert.ProjVsRefIdeal.τ) (Cert.ProjVsRefIdeal.main (F := Ideal))) ⟨m', fun _ => 0, g'⟩ (fun r => ∀ c : Dev Cert.ProjVsRefIdeal.nD,
          r.2.mem ((c.tc : Thread Cert.ProjVsRefIdeal.nD Cert.ProjVsRefIdeal.τ).loc Cert.ProjVsRefIdeal.main_v28) = v0 c
          ∧ r.2.mem ((c.tc : Thread Cert.ProjVsRefIdeal.nD Cert.ProjVsRefIdeal.τ).loc Cert.ProjVsRefIdeal.main_arg0) = m' ((c.tc : Thread Cert.ProjVsRefIdeal.nD Cert.ProjVsRefIdeal.τ).loc Cert.ProjVsRefIdeal.main_arg0)
          ∧ r.2.mem ((c.tc : Thread Cert.ProjVsRefIdeal.nD Cert.ProjVsRefIdeal.τ).loc Cert.ProjVsRefIdeal.main_arg1) = m' ((c.tc : Thread Cert.ProjVsRefIdeal.nD Cert.ProjVsRefIdeal.τ).loc Cert.ProjVsRefIdeal.main_arg1)
          ∧ r.2.mem ((c.tc : Thread Cert.ProjVsRefIdeal.nD Cert.ProjVsRefIdeal.τ).loc Cert.ProjVsRefIdeal.main_arg2) = m' ((c.tc : Thread Cert.ProjVsRefIdeal.nD Cert.ProjVsRefIdeal.τ).loc Cert.ProjVsRefIdeal.main_arg2))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v2)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v2) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v9) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)) →
    ∃ (v0 : (c : Dev Cert.SguIdeal.nD) → Buf (Elt Ideal) ((c.tc : Thread Cert.SguIdeal.nD Cert.SguIdeal.τ).loc Cert.SguIdeal.main_v5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v5) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v15) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v13) = v0 c
          ∧ r.2.mem ((c.tc : Thread Cert.MergeRefIdeal.nD Cert.MergeRefIdeal.τ).loc Cert.MergeRefIdeal.main_v27) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_PeerQuery_PeerQueryIdeal : Prop :=
  True

def algebraic_PeerQueryIdeal_PeerQueryRefIdeal [hPeerQueryIdeal : Cert.PeerQueryIdeal.Facts] [hPeerQueryRefIdeal : Cert.PeerQueryRefIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v1)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v1) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v2) = v0 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1))

def preserves_ProjKvS_ProjKvSIdeal : Prop :=
  True

def algebraic_ProjKvSIdeal_ProjKvSRefIdeal [hProjKvSIdeal : Cert.ProjKvSIdeal.Facts] [hProjKvSRefIdeal : Cert.ProjKvSRefIdeal.Facts] : Prop :=
  ∀ (m : (ℓ : Loc Cert.ProjKvSIdeal.nD Cert.ProjKvSIdeal.τ Cert.ProjKvSIdeal.sig) → Buf (Elt Ideal) ℓ) (g : Dev Cert.ProjKvSIdeal.nD → PrngReg)
    (m' : (ℓ : Loc Cert.ProjKvSRefIdeal.nD Cert.ProjKvSRefIdeal.τ Cert.ProjKvSRefIdeal.sig) → Buf (Elt Ideal) ℓ) (g' : Dev Cert.ProjKvSRefIdeal.nD → PrngReg), Pre_ProjKvSIdeal m →
    (∀ c : Dev Cert.ProjKvSIdeal.nD,
      m' ((c.tc : Thread Cert.ProjKvSRefIdeal.nD Cert.ProjKvSRefIdeal.τ).loc Cert.ProjKvSRefIdeal.main_arg0) = m ((c.tc : Thread Cert.ProjKvSIdeal.nD Cert.ProjKvSIdeal.τ).loc Cert.ProjKvSIdeal.main_arg0)
      ∧ m' ((c.tc : Thread Cert.ProjKvSRefIdeal.nD Cert.ProjKvSRefIdeal.τ).loc Cert.ProjKvSRefIdeal.main_arg1) = m ((c.tc : Thread Cert.ProjKvSIdeal.nD Cert.ProjKvSIdeal.τ).loc Cert.ProjKvSIdeal.main_arg1)) →
    ∃ (v0 : (c : Dev Cert.ProjKvSIdeal.nD) → Buf (Elt Ideal) ((c.tc : Thread Cert.ProjKvSIdeal.nD Cert.ProjKvSIdeal.τ).loc Cert.ProjKvSIdeal.main_v2)),
      θ_run (Cert.ProjKvSIdeal.defs (F := Ideal)) (onTc (τ := Cert.ProjKvSIdeal.τ) (Cert.ProjKvSIdeal.main (F := Ideal))) ⟨m, fun _ => 0, g⟩ (fun r => ∀ c : Dev Cert.ProjKvSIdeal.nD,
          r.2.mem ((c.tc : Thread Cert.ProjKvSIdeal.nD Cert.ProjKvSIdeal.τ).loc Cert.ProjKvSIdeal.main_v2) = v0 c
          ∧ r.2.mem ((c.tc : Thread Cert.ProjKvSIdeal.nD Cert.ProjKvSIdeal.τ).loc Cert.ProjKvSIdeal.main_arg0) = m ((c.tc : Thread Cert.ProjKvSIdeal.nD Cert.ProjKvSIdeal.τ).loc Cert.ProjKvSIdeal.main_arg0)
          ∧ r.2.mem ((c.tc : Thread Cert.ProjKvSIdeal.nD Cert.ProjKvSIdeal.τ).loc Cert.ProjKvSIdeal.main_arg1) = m ((c.tc : Thread Cert.ProjKvSIdeal.nD Cert.ProjKvSIdeal.τ).loc Cert.ProjKvSIdeal.main_arg1))
      ∧ θ_run (Cert.ProjKvSRefIdeal.defs (F := Ideal)) (onTc (τ := Cert.ProjKvSRefIdeal.τ) (Cert.ProjKvSRefIdeal.main (F := Ideal))) ⟨m', fun _ => 0, g'⟩ (fun r => ∀ c : Dev Cert.ProjKvSRefIdeal.nD,
          r.2.mem ((c.tc : Thread Cert.ProjKvSRefIdeal.nD Cert.ProjKvSRefIdeal.τ).loc Cert.ProjKvSRefIdeal.main_v2) = v0 c
          ∧ r.2.mem ((c.tc : Thread Cert.ProjKvSRefIdeal.nD Cert.ProjKvSRefIdeal.τ).loc Cert.ProjKvSRefIdeal.main_arg0) = m' ((c.tc : Thread Cert.ProjKvSRefIdeal.nD Cert.ProjKvSRefIdeal.τ).loc Cert.ProjKvSRefIdeal.main_arg0)
          ∧ r.2.mem ((c.tc : Thread Cert.ProjKvSRefIdeal.nD Cert.ProjKvSRefIdeal.τ).loc Cert.ProjKvSRefIdeal.main_arg1) = m' ((c.tc : Thread Cert.ProjKvSRefIdeal.nD Cert.ProjKvSRefIdeal.τ).loc Cert.ProjKvSRefIdeal.main_arg1))

def preserves_ProjVsS_ProjVsSIdeal : Prop :=
  True

def algebraic_ProjVsSIdeal_ProjVsSRefIdeal [hProjVsSIdeal : Cert.ProjVsSIdeal.Facts] [hProjVsSRefIdeal : Cert.ProjVsSRefIdeal.Facts] : Prop :=
  ∀ (m : (ℓ : Loc Cert.ProjVsSIdeal.nD Cert.ProjVsSIdeal.τ Cert.ProjVsSIdeal.sig) → Buf (Elt Ideal) ℓ) (g : Dev Cert.ProjVsSIdeal.nD → PrngReg)
    (m' : (ℓ : Loc Cert.ProjVsSRefIdeal.nD Cert.ProjVsSRefIdeal.τ Cert.ProjVsSRefIdeal.sig) → Buf (Elt Ideal) ℓ) (g' : Dev Cert.ProjVsSRefIdeal.nD → PrngReg), Pre_ProjVsSIdeal m →
    (∀ c : Dev Cert.ProjVsSIdeal.nD,
      m' ((c.tc : Thread Cert.ProjVsSRefIdeal.nD Cert.ProjVsSRefIdeal.τ).loc Cert.ProjVsSRefIdeal.main_arg0) = m ((c.tc : Thread Cert.ProjVsSIdeal.nD Cert.ProjVsSIdeal.τ).loc Cert.ProjVsSIdeal.main_arg0)
      ∧ m' ((c.tc : Thread Cert.ProjVsSRefIdeal.nD Cert.ProjVsSRefIdeal.τ).loc Cert.ProjVsSRefIdeal.main_arg1) = m ((c.tc : Thread Cert.ProjVsSIdeal.nD Cert.ProjVsSIdeal.τ).loc Cert.ProjVsSIdeal.main_arg1)
      ∧ m' ((c.tc : Thread Cert.ProjVsSRefIdeal.nD Cert.ProjVsSRefIdeal.τ).loc Cert.ProjVsSRefIdeal.main_arg2) = m ((c.tc : Thread Cert.ProjVsSIdeal.nD Cert.ProjVsSIdeal.τ).loc Cert.ProjVsSIdeal.main_arg2)) →
    ∃ (v0 : (c : Dev Cert.ProjVsSIdeal.nD) → Buf (Elt Ideal) ((c.tc : Thread Cert.ProjVsSIdeal.nD Cert.ProjVsSIdeal.τ).loc Cert.ProjVsSIdeal.main_v3)),
      θ_run (Cert.ProjVsSIdeal.defs (F := Ideal)) (onTc (τ := Cert.ProjVsSIdeal.τ) (Cert.ProjVsSIdeal.main (F := Ideal))) ⟨m, fun _ => 0, g⟩ (fun r => ∀ c : Dev Cert.ProjVsSIdeal.nD,
          r.2.mem ((c.tc : Thread Cert.ProjVsSIdeal.nD Cert.ProjVsSIdeal.τ).loc Cert.ProjVsSIdeal.main_v3) = v0 c
          ∧ r.2.mem ((c.tc : Thread Cert.ProjVsSIdeal.nD Cert.ProjVsSIdeal.τ).loc Cert.ProjVsSIdeal.main_arg0) = m ((c.tc : Thread Cert.ProjVsSIdeal.nD Cert.ProjVsSIdeal.τ).loc Cert.ProjVsSIdeal.main_arg0)
          ∧ r.2.mem ((c.tc : Thread Cert.ProjVsSIdeal.nD Cert.ProjVsSIdeal.τ).loc Cert.ProjVsSIdeal.main_arg1) = m ((c.tc : Thread Cert.ProjVsSIdeal.nD Cert.ProjVsSIdeal.τ).loc Cert.ProjVsSIdeal.main_arg1)
          ∧ r.2.mem ((c.tc : Thread Cert.ProjVsSIdeal.nD Cert.ProjVsSIdeal.τ).loc Cert.ProjVsSIdeal.main_arg2) = m ((c.tc : Thread Cert.ProjVsSIdeal.nD Cert.ProjVsSIdeal.τ).loc Cert.ProjVsSIdeal.main_arg2))
      ∧ θ_run (Cert.ProjVsSRefIdeal.defs (F := Ideal)) (onTc (τ := Cert.ProjVsSRefIdeal.τ) (Cert.ProjVsSRefIdeal.main (F := Ideal))) ⟨m', fun _ => 0, g'⟩ (fun r => ∀ c : Dev Cert.ProjVsSRefIdeal.nD,
          r.2.mem ((c.tc : Thread Cert.ProjVsSRefIdeal.nD Cert.ProjVsSRefIdeal.τ).loc Cert.ProjVsSRefIdeal.main_v28) = v0 c
          ∧ r.2.mem ((c.tc : Thread Cert.ProjVsSRefIdeal.nD Cert.ProjVsSRefIdeal.τ).loc Cert.ProjVsSRefIdeal.main_arg0) = m' ((c.tc : Thread Cert.ProjVsSRefIdeal.nD Cert.ProjVsSRefIdeal.τ).loc Cert.ProjVsSRefIdeal.main_arg0)
          ∧ r.2.mem ((c.tc : Thread Cert.ProjVsSRefIdeal.nD Cert.ProjVsSRefIdeal.τ).loc Cert.ProjVsSRefIdeal.main_arg1) = m' ((c.tc : Thread Cert.ProjVsSRefIdeal.nD Cert.ProjVsSRefIdeal.τ).loc Cert.ProjVsSRefIdeal.main_arg1)
          ∧ r.2.mem ((c.tc : Thread Cert.ProjVsSRefIdeal.nD Cert.ProjVsSRefIdeal.τ).loc Cert.ProjVsSRefIdeal.main_arg2) = m' ((c.tc : Thread Cert.ProjVsSRefIdeal.nD Cert.ProjVsSRefIdeal.τ).loc Cert.ProjVsSRefIdeal.main_arg2))

def preserves_PeerExperts_PeerExpertsIdeal : Prop :=
  IdealRules.named_const.Statement Cert.PeerExpertsIdeal.κ "c_alpha" .f32 0x3D122279#32 ((80338380498831 / 2251799813685248 : ℝ) : EReal)

def algebraic_PeerExpertsIdeal_PeerExpertsRefIdeal_pre_finite_experts [hPeerExpertsIdeal : Cert.PeerExpertsIdeal.Facts] [hPeerExpertsRefIdeal : Cert.PeerExpertsRefIdeal.Facts] [hPre_finite_experts : Cert.Pre_finite_experts.Facts] : Prop :=
  ∀ (m : (ℓ : Loc Cert.PeerExpertsIdeal.nD Cert.PeerExpertsIdeal.τ Cert.PeerExpertsIdeal.sig) → Buf (Elt Ideal) ℓ) (g : Dev Cert.PeerExpertsIdeal.nD → PrngReg)
    (m' : (ℓ : Loc Cert.PeerExpertsRefIdeal.nD Cert.PeerExpertsRefIdeal.τ Cert.PeerExpertsRefIdeal.sig) → Buf (Elt Ideal) ℓ) (g' : Dev Cert.PeerExpertsRefIdeal.nD → PrngReg), Pre_PeerExpertsIdeal_finite_experts m →
    (∀ c : Dev Cert.PeerExpertsIdeal.nD,
      m' ((c.tc : Thread Cert.PeerExpertsRefIdeal.nD Cert.PeerExpertsRefIdeal.τ).loc Cert.PeerExpertsRefIdeal.main_arg0) = m ((c.tc : Thread Cert.PeerExpertsIdeal.nD Cert.PeerExpertsIdeal.τ).loc Cert.PeerExpertsIdeal.main_arg0)
      ∧ m' ((c.tc : Thread Cert.PeerExpertsRefIdeal.nD Cert.PeerExpertsRefIdeal.τ).loc Cert.PeerExpertsRefIdeal.main_arg1) = m ((c.tc : Thread Cert.PeerExpertsIdeal.nD Cert.PeerExpertsIdeal.τ).loc Cert.PeerExpertsIdeal.main_arg1)
      ∧ m' ((c.tc : Thread Cert.PeerExpertsRefIdeal.nD Cert.PeerExpertsRefIdeal.τ).loc Cert.PeerExpertsRefIdeal.main_arg2) = m ((c.tc : Thread Cert.PeerExpertsIdeal.nD Cert.PeerExpertsIdeal.τ).loc Cert.PeerExpertsIdeal.main_arg2)
      ∧ m' ((c.tc : Thread Cert.PeerExpertsRefIdeal.nD Cert.PeerExpertsRefIdeal.τ).loc Cert.PeerExpertsRefIdeal.main_arg3) = m ((c.tc : Thread Cert.PeerExpertsIdeal.nD Cert.PeerExpertsIdeal.τ).loc Cert.PeerExpertsIdeal.main_arg3)
      ∧ m' ((c.tc : Thread Cert.PeerExpertsRefIdeal.nD Cert.PeerExpertsRefIdeal.τ).loc Cert.PeerExpertsRefIdeal.main_arg4) = m ((c.tc : Thread Cert.PeerExpertsIdeal.nD Cert.PeerExpertsIdeal.τ).loc Cert.PeerExpertsIdeal.main_arg4)
      ∧ m' ((c.tc : Thread Cert.PeerExpertsRefIdeal.nD Cert.PeerExpertsRefIdeal.τ).loc Cert.PeerExpertsRefIdeal.main_arg5) = m ((c.tc : Thread Cert.PeerExpertsIdeal.nD Cert.PeerExpertsIdeal.τ).loc Cert.PeerExpertsIdeal.main_arg5)
      ∧ m' ((c.tc : Thread Cert.PeerExpertsRefIdeal.nD Cert.PeerExpertsRefIdeal.τ).loc Cert.PeerExpertsRefIdeal.main_arg6) = m ((c.tc : Thread Cert.PeerExpertsIdeal.nD Cert.PeerExpertsIdeal.τ).loc Cert.PeerExpertsIdeal.main_arg6)
      ∧ m' ((c.tc : Thread Cert.PeerExpertsRefIdeal.nD Cert.PeerExpertsRefIdeal.τ).loc Cert.PeerExpertsRefIdeal.main_arg7) = m ((c.tc : Thread Cert.PeerExpertsIdeal.nD Cert.PeerExpertsIdeal.τ).loc Cert.PeerExpertsIdeal.main_arg7)
      ∧ m' ((c.tc : Thread Cert.PeerExpertsRefIdeal.nD Cert.PeerExpertsRefIdeal.τ).loc Cert.PeerExpertsRefIdeal.main_arg8) = m ((c.tc : Thread Cert.PeerExpertsIdeal.nD Cert.PeerExpertsIdeal.τ).loc Cert.PeerExpertsIdeal.main_arg8)) →
    ∃ (v0 : (c : Dev Cert.PeerExpertsIdeal.nD) → Buf (Elt Ideal) ((c.tc : Thread Cert.PeerExpertsIdeal.nD Cert.PeerExpertsIdeal.τ).loc Cert.PeerExpertsIdeal.main_v4)),
      θ_run (Cert.PeerExpertsIdeal.defs (F := Ideal)) (onTc (τ := Cert.PeerExpertsIdeal.τ) (Cert.PeerExpertsIdeal.main (F := Ideal))) ⟨m, fun _ => 0, g⟩ (fun r => ∀ c : Dev Cert.PeerExpertsIdeal.nD,
          r.2.mem ((c.tc : Thread Cert.PeerExpertsIdeal.nD Cert.PeerExpertsIdeal.τ).loc Cert.PeerExpertsIdeal.main_v4) = v0 c
          ∧ r.2.mem ((c.tc : Thread Cert.PeerExpertsIdeal.nD Cert.PeerExpertsIdeal.τ).loc Cert.PeerExpertsIdeal.main_arg0) = m ((c.tc : Thread Cert.PeerExpertsIdeal.nD Cert.PeerExpertsIdeal.τ).loc Cert.PeerExpertsIdeal.main_arg0)
          ∧ r.2.mem ((c.tc : Thread Cert.PeerExpertsIdeal.nD Cert.PeerExpertsIdeal.τ).loc Cert.PeerExpertsIdeal.main_arg1) = m ((c.tc : Thread Cert.PeerExpertsIdeal.nD Cert.PeerExpertsIdeal.τ).loc Cert.PeerExpertsIdeal.main_arg1)
          ∧ r.2.mem ((c.tc : Thread Cert.PeerExpertsIdeal.nD Cert.PeerExpertsIdeal.τ).loc Cert.PeerExpertsIdeal.main_arg2) = m ((c.tc : Thread Cert.PeerExpertsIdeal.nD Cert.PeerExpertsIdeal.τ).loc Cert.PeerExpertsIdeal.main_arg2)
          ∧ r.2.mem ((c.tc : Thread Cert.PeerExpertsIdeal.nD Cert.PeerExpertsIdeal.τ).loc Cert.PeerExpertsIdeal.main_arg3) = m ((c.tc : Thread Cert.PeerExpertsIdeal.nD Cert.PeerExpertsIdeal.τ).loc Cert.PeerExpertsIdeal.main_arg3)
          ∧ r.2.mem ((c.tc : Thread Cert.PeerExpertsIdeal.nD Cert.PeerExpertsIdeal.τ).loc Cert.PeerExpertsIdeal.main_arg4) = m ((c.tc : Thread Cert.PeerExpertsIdeal.nD Cert.PeerExpertsIdeal.τ).loc Cert.PeerExpertsIdeal.main_arg4)
          ∧ r.2.mem ((c.tc : Thread Cert.PeerExpertsIdeal.nD Cert.PeerExpertsIdeal.τ).loc Cert.PeerExpertsIdeal.main_arg5) = m ((c.tc : Thread Cert.PeerExpertsIdeal.nD Cert.PeerExpertsIdeal.τ).loc Cert.PeerExpertsIdeal.main_arg5)
          ∧ r.2.mem ((c.tc : Thread Cert.PeerExpertsIdeal.nD Cert.PeerExpertsIdeal.τ).loc Cert.PeerExpertsIdeal.main_arg6) = m ((c.tc : Thread Cert.PeerExpertsIdeal.nD Cert.PeerExpertsIdeal.τ).loc Cert.PeerExpertsIdeal.main_arg6)
          ∧ r.2.mem ((c.tc : Thread Cert.PeerExpertsIdeal.nD Cert.PeerExpertsIdeal.τ).loc Cert.PeerExpertsIdeal.main_arg7) = m ((c.tc : Thread Cert.PeerExpertsIdeal.nD Cert.PeerExpertsIdeal.τ).loc Cert.PeerExpertsIdeal.main_arg7)
          ∧ r.2.mem ((c.tc : Thread Cert.PeerExpertsIdeal.nD Cert.PeerExpertsIdeal.τ).loc Cert.PeerExpertsIdeal.main_arg8) = m ((c.tc : Thread Cert.PeerExpertsIdeal.nD Cert.PeerExpertsIdeal.τ).loc Cert.PeerExpertsIdeal.main_arg8))
      ∧ θ_run (Cert.PeerExpertsRefIdeal.defs (F := Ideal)) (onTc (τ := Cert.PeerExpertsRefIdeal.τ) (Cert.PeerExpertsRefIdeal.main (F := Ideal))) ⟨m', fun _ => 0, g'⟩ (fun r => ∀ c : Dev Cert.PeerExpertsRefIdeal.nD,
          r.2.mem ((c.tc : Thread Cert.PeerExpertsRefIdeal.nD Cert.PeerExpertsRefIdeal.τ).loc Cert.PeerExpertsRefIdeal.main_v45) = v0 c
          ∧ r.2.mem ((c.tc : Thread Cert.PeerExpertsRefIdeal.nD Cert.PeerExpertsRefIdeal.τ).loc Cert.PeerExpertsRefIdeal.main_arg0) = m' ((c.tc : Thread Cert.PeerExpertsRefIdeal.nD Cert.PeerExpertsRefIdeal.τ).loc Cert.PeerExpertsRefIdeal.main_arg0)
          ∧ r.2.mem ((c.tc : Thread Cert.PeerExpertsRefIdeal.nD Cert.PeerExpertsRefIdeal.τ).loc Cert.PeerExpertsRefIdeal.main_arg1) = m' ((c.tc : Thread Cert.PeerExpertsRefIdeal.nD Cert.PeerExpertsRefIdeal.τ).loc Cert.PeerExpertsRefIdeal.main_arg1)
          ∧ r.2.mem ((c.tc : Thread Cert.PeerExpertsRefIdeal.nD Cert.PeerExpertsRefIdeal.τ).loc Cert.PeerExpertsRefIdeal.main_arg2) = m' ((c.tc : Thread Cert.PeerExpertsRefIdeal.nD Cert.PeerExpertsRefIdeal.τ).loc Cert.PeerExpertsRefIdeal.main_arg2)
          ∧ r.2.mem ((c.tc : Thread Cert.PeerExpertsRefIdeal.nD Cert.PeerExpertsRefIdeal.τ).loc Cert.PeerExpertsRefIdeal.main_arg3) = m' ((c.tc : Thread Cert.PeerExpertsRefIdeal.nD Cert.PeerExpertsRefIdeal.τ).loc Cert.PeerExpertsRefIdeal.main_arg3)
          ∧ r.2.mem ((c.tc : Thread Cert.PeerExpertsRefIdeal.nD Cert.PeerExpertsRefIdeal.τ).loc Cert.PeerExpertsRefIdeal.main_arg4) = m' ((c.tc : Thread Cert.PeerExpertsRefIdeal.nD Cert.PeerExpertsRefIdeal.τ).loc Cert.PeerExpertsRefIdeal.main_arg4)
          ∧ r.2.mem ((c.tc : Thread Cert.PeerExpertsRefIdeal.nD Cert.PeerExpertsRefIdeal.τ).loc Cert.PeerExpertsRefIdeal.main_arg5) = m' ((c.tc : Thread Cert.PeerExpertsRefIdeal.nD Cert.PeerExpertsRefIdeal.τ).loc Cert.PeerExpertsRefIdeal.main_arg5)
          ∧ r.2.mem ((c.tc : Thread Cert.PeerExpertsRefIdeal.nD Cert.PeerExpertsRefIdeal.τ).loc Cert.PeerExpertsRefIdeal.main_arg6) = m' ((c.tc : Thread Cert.PeerExpertsRefIdeal.nD Cert.PeerExpertsRefIdeal.τ).loc Cert.PeerExpertsRefIdeal.main_arg6)
          ∧ r.2.mem ((c.tc : Thread Cert.PeerExpertsRefIdeal.nD Cert.PeerExpertsRefIdeal.τ).loc Cert.PeerExpertsRefIdeal.main_arg7) = m' ((c.tc : Thread Cert.PeerExpertsRefIdeal.nD Cert.PeerExpertsRefIdeal.τ).loc Cert.PeerExpertsRefIdeal.main_arg7)
          ∧ r.2.mem ((c.tc : Thread Cert.PeerExpertsRefIdeal.nD Cert.PeerExpertsRefIdeal.τ).loc Cert.PeerExpertsRefIdeal.main_arg8) = m' ((c.tc : Thread Cert.PeerExpertsRefIdeal.nD Cert.PeerExpertsRefIdeal.τ).loc Cert.PeerExpertsRefIdeal.main_arg8))

def Claim : Prop :=
  ∃ (hKernel : Cert.Kernel.Facts) (hKernelIdeal : Cert.KernelIdeal.Facts) (hReferenceIdeal : Cert.ReferenceIdeal.Facts) (hNormQ : Cert.NormQ.Facts) (hNormQIdeal : Cert.NormQIdeal.Facts) (hNormQRefIdeal : Cert.NormQRefIdeal.Facts) (hProjKv : Cert.ProjKv.Facts) (hProjKvIdeal : Cert.ProjKvIdeal.Facts) (hProjKvRefIdeal : Cert.ProjKvRefIdeal.Facts) (hProjU : Cert.ProjU.Facts) (hProjUIdeal : Cert.ProjUIdeal.Facts) (hProjURefIdeal : Cert.ProjURefIdeal.Facts) (hProjVs : Cert.ProjVs.Facts) (hProjVsIdeal : Cert.ProjVsIdeal.Facts) (hProjVsRefIdeal : Cert.ProjVsRefIdeal.Facts) (hProjGates : Cert.ProjGates.Facts) (hProjGatesIdeal : Cert.ProjGatesIdeal.Facts) (hProjGatesRefIdeal : Cert.ProjGatesRefIdeal.Facts) (hSgu : Cert.Sgu.Facts) (hSguIdeal : Cert.SguIdeal.Facts) (hSguRefIdeal : Cert.SguRefIdeal.Facts) (hMerge : Cert.Merge.Facts) (hMergeIdeal : Cert.MergeIdeal.Facts) (hMergeRefIdeal : Cert.MergeRefIdeal.Facts) (hPeerQuery : Cert.PeerQuery.Facts) (hPeerQueryIdeal : Cert.PeerQueryIdeal.Facts) (hPeerQueryRefIdeal : Cert.PeerQueryRefIdeal.Facts) (hProjKvS : Cert.ProjKvS.Facts) (hProjKvSIdeal : Cert.ProjKvSIdeal.Facts) (hProjKvSRefIdeal : Cert.ProjKvSRefIdeal.Facts) (hProjVsS : Cert.ProjVsS.Facts) (hProjVsSIdeal : Cert.ProjVsSIdeal.Facts) (hProjVsSRefIdeal : Cert.ProjVsSRefIdeal.Facts) (hPeerExperts : Cert.PeerExperts.Facts) (hPeerExpertsIdeal : Cert.PeerExpertsIdeal.Facts) (hPeerExpertsRefIdeal : Cert.PeerExpertsRefIdeal.Facts) (hPre_finite : Cert.Pre_finite.Facts) (hPre_finite_experts : Cert.Pre_finite_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_NormQ (hNormQ := hNormQ)
    ∧ quiescent_NormQIdeal (hNormQIdeal := hNormQIdeal)
    ∧ quiescent_NormQRefIdeal (hNormQRefIdeal := hNormQRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_ProjU (hProjU := hProjU)
    ∧ quiescent_ProjUIdeal (hProjUIdeal := hProjUIdeal)
    ∧ quiescent_ProjURefIdeal (hProjURefIdeal := hProjURefIdeal)
    ∧ quiescent_ProjVs (hProjVs := hProjVs)
    ∧ quiescent_ProjVsIdeal (hProjVsIdeal := hProjVsIdeal)
    ∧ quiescent_ProjVsRefIdeal (hProjVsRefIdeal := hProjVsRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_Sgu (hSgu := hSgu)
    ∧ quiescent_SguIdeal (hSguIdeal := hSguIdeal)
    ∧ quiescent_SguRefIdeal (hSguRefIdeal := hSguRefIdeal)
    ∧ quiescent_Merge (hMerge := hMerge)
    ∧ quiescent_MergeIdeal (hMergeIdeal := hMergeIdeal)
    ∧ quiescent_MergeRefIdeal (hMergeRefIdeal := hMergeRefIdeal)
    ∧ quiescent_PeerQuery (hPeerQuery := hPeerQuery)
    ∧ quiescent_PeerQueryIdeal (hPeerQueryIdeal := hPeerQueryIdeal)
    ∧ quiescent_PeerQueryRefIdeal (hPeerQueryRefIdeal := hPeerQueryRefIdeal)
    ∧ quiescent_ProjKvS (hProjKvS := hProjKvS)
    ∧ quiescent_ProjKvSIdeal (hProjKvSIdeal := hProjKvSIdeal)
    ∧ quiescent_ProjKvSRefIdeal (hProjKvSRefIdeal := hProjKvSRefIdeal)
    ∧ quiescent_ProjVsS (hProjVsS := hProjVsS)
    ∧ quiescent_ProjVsSIdeal (hProjVsSIdeal := hProjVsSIdeal)
    ∧ quiescent_ProjVsSRefIdeal (hProjVsSRefIdeal := hProjVsSRefIdeal)
    ∧ quiescent_PeerExperts (hPeerExperts := hPeerExperts)
    ∧ quiescent_PeerExpertsIdeal (hPeerExpertsIdeal := hPeerExpertsIdeal)
    ∧ quiescent_PeerExpertsIdeal_pre_finite_experts (hPeerExpertsIdeal := hPeerExpertsIdeal) (hPre_finite_experts := hPre_finite_experts)
    ∧ quiescent_PeerExpertsRefIdeal (hPeerExpertsRefIdeal := hPeerExpertsRefIdeal)
    ∧ quiescent_PeerExpertsRefIdeal_pre_finite_experts (hPeerExpertsRefIdeal := hPeerExpertsRefIdeal) (hPre_finite_experts := hPre_finite_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_NormQ_NormQIdeal
    ∧ algebraic_NormQIdeal_NormQRefIdeal (hNormQIdeal := hNormQIdeal) (hNormQRefIdeal := hNormQRefIdeal)
    ∧ preserves_ProjKv_ProjKvIdeal
    ∧ algebraic_ProjKvIdeal_ProjKvRefIdeal (hProjKvIdeal := hProjKvIdeal) (hProjKvRefIdeal := hProjKvRefIdeal)
    ∧ preserves_ProjU_ProjUIdeal
    ∧ algebraic_ProjUIdeal_ProjURefIdeal (hProjUIdeal := hProjUIdeal) (hProjURefIdeal := hProjURefIdeal)
    ∧ preserves_ProjVs_ProjVsIdeal
    ∧ algebraic_ProjVsIdeal_ProjVsRefIdeal (hProjVsIdeal := hProjVsIdeal) (hProjVsRefIdeal := hProjVsRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_Sgu_SguIdeal
    ∧ algebraic_SguIdeal_SguRefIdeal (hSguIdeal := hSguIdeal) (hSguRefIdeal := hSguRefIdeal)
    ∧ preserves_Merge_MergeIdeal
    ∧ algebraic_MergeIdeal_MergeRefIdeal (hMergeIdeal := hMergeIdeal) (hMergeRefIdeal := hMergeRefIdeal)
    ∧ preserves_PeerQuery_PeerQueryIdeal
    ∧ algebraic_PeerQueryIdeal_PeerQueryRefIdeal (hPeerQueryIdeal := hPeerQueryIdeal) (hPeerQueryRefIdeal := hPeerQueryRefIdeal)
    ∧ preserves_ProjKvS_ProjKvSIdeal
    ∧ algebraic_ProjKvSIdeal_ProjKvSRefIdeal (hProjKvSIdeal := hProjKvSIdeal) (hProjKvSRefIdeal := hProjKvSRefIdeal)
    ∧ preserves_ProjVsS_ProjVsSIdeal
    ∧ algebraic_ProjVsSIdeal_ProjVsSRefIdeal (hProjVsSIdeal := hProjVsSIdeal) (hProjVsSRefIdeal := hProjVsSRefIdeal)
    ∧ preserves_PeerExperts_PeerExpertsIdeal
    ∧ algebraic_PeerExpertsIdeal_PeerExpertsRefIdeal_pre_finite_experts (hPeerExpertsIdeal := hPeerExpertsIdeal) (hPeerExpertsRefIdeal := hPeerExpertsRefIdeal) (hPre_finite_experts := hPre_finite_experts)
-- ==== Pre_finite.lean ====
abbrev S8x2048x1024 : Shape := ⟨3, ![8, 2048, 1024]⟩
abbrev S8x2048x128 : Shape := ⟨3, ![8, 2048, 128]⟩
abbrev S16x64x192 : Shape := ⟨3, ![16, 64, 192]⟩
abbrev S16 : Shape := ⟨1, ![16]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S16x64x192 : S_.BroadcastsInDim S16x64x192 (![] : Fin 0 → Fin S16x64x192.rank)
  reducesTo_S16x64x192_S_d0_1_2 : S16x64x192.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S8x2048x1024 .f32) (main_arg1 : FVec F S8x2048x128 .f32) (main_arg2 : FVec F S8x2048x128 .f32) (main_arg3 : FVec F S16x64x192 .f32) (main_arg4 : FVec F S16 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S16x64x192 .f32 := Host.absf main_arg3
  let main_cst_2 : FVec F S_ .f32 := constant S_ .f32 0x7F800000#32
  let main_v10 : FVec F S16x64x192 .f32 := broadcastInDim S16x64x192 ![] bcast_S_S16x64x192 main_cst_2
  let main_v11 : IVec S16x64x192 1 := cmpf .olt main_v9 main_v10
  let main_c_3 : IVec S_ 1 := constantI S_ 1 1#1
  let main_v12 : IVec S_ 1 := (fun x v => Host.reduce IntOp.andi x v reducesTo_S16x64x192_S_d0_1_2 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite_experts.lean ====
abbrev S16384x2048 : Shape := ⟨2, ![16384, 2048]⟩
abbrev S1024x16384 : Shape := ⟨2, ![1024, 16384]⟩
abbrev S8x128x16384 : Shape := ⟨3, ![8, 128, 16384]⟩
abbrev S2048 : Shape := ⟨1, ![2048]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .bf16) (main_arg1 : FVec F S16384x2048 .f32) (main_arg2 : FVec F S16384x2048 .f32) (main_arg3 : FVec F S1024x16384 .bf16) (main_arg4 : FVec F S1024x16384 .bf16) (main_arg5 : FVec F S8x128x16384 .f32) (main_arg6 : FVec F S8x128x16384 .f32) (main_arg7 : FVec F S16384x2048 .f32) (main_arg8 : FVec F S2048 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := Host.absf main_arg1
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_c_1 : IVec S_ 1 := constantI S_ 1 1#1
  let main_v8 : IVec S_ 1 := (fun x v => Host.reduce IntOp.andi x v reducesTo_S16384x2048_S_d0_1 h_S_) main_v7 main_c_1
  let main_v9 : IVec S_ 1 := andi main_v4 main_v8
  main_v9
-- ==== Kernel.lean ====
abbrev S8x2048x1024 : Shape := ⟨3, ![8, 2048, 1024]⟩
abbrev S8x2048x128 : Shape := ⟨3, ![8, 2048, 128]⟩
abbrev S16x64x192 : Shape := ⟨3, ![16, 64, 192]⟩
abbrev S16 : Shape := ⟨1, ![16]⟩
abbrev S_ : Shape := ⟨0, ![]⟩
abbrev S8x2176x128 : Shape := ⟨3, ![8, 2176, 128]⟩
abbrev S1x128x1024 : Shape := ⟨3, ![1, 128, 1024]⟩
abbrev S1x2176x128 : Shape := ⟨3, ![1, 2176, 128]⟩
abbrev S1x192x128 : Shape := ⟨3, ![1, 192, 128]⟩
abbrev S192x128 : Shape := ⟨2, ![192, 128]⟩
abbrev S1x192 : Shape := ⟨2, ![1, 192]⟩
abbrev S1x64x64 : Shape := ⟨3, ![1, 64, 64]⟩
abbrev S64x64 : Shape := ⟨2, ![64, 64]⟩
abbrev S192x64 : Shape := ⟨2, ![192, 64]⟩
abbrev S64x192 : Shape := ⟨2, ![64, 192]⟩
abbrev S1x64x192 : Shape := ⟨3, ![1, 64, 192]⟩
abbrev S64 : Shape := ⟨1, ![64]⟩
abbrev S64x1 : Shape := ⟨2, ![64, 1]⟩
abbrev S1 : Shape := ⟨1, ![1]⟩

abbrev nBuf : Space → Nat
  | .hbm => 18
  | .vmem => 9
  | .smem => 1
  | _ => 0

abbrev bufTy : (tb : Table) → Fin (tcTables nBuf tb) → BufTy
  | .hbm, ⟨0, _⟩ => ⟨S8x2048x1024, .f32⟩
  | .hbm, ⟨1, _⟩ => ⟨S8x2048x128, .f32⟩
  | .hbm, ⟨2, _⟩ => ⟨S8x2048x128, .f32⟩
  | .hbm, ⟨3, _⟩ => ⟨S16x64x192, .f32⟩
  | .hbm, ⟨4, _⟩ => ⟨S16, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S8x2048x1024, .bf16⟩
  | .hbm, ⟨9, _⟩ => ⟨S8x2048x128, .bf16⟩
  | .hbm, ⟨10, _⟩ => ⟨S_, .i32⟩
  | .hbm, ⟨11, _⟩ => ⟨S_, .bf16⟩
  | .hbm, ⟨12, _⟩ => ⟨S8x2176x128, .bf16⟩
  | .hbm, ⟨13, _⟩ => ⟨S8x2048x128, .bf16⟩
  | .hbm, ⟨14, _⟩ => ⟨S_, .i32⟩
  | .hbm, ⟨15, _⟩ => ⟨S_, .bf16⟩
  | .hbm, ⟨16, _⟩ => ⟨S8x2176x128, .bf16⟩
  | .hbm, ⟨17, _⟩ => ⟨S8x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x2176x128, .bf16⟩
  | .local _ .vmem, ⟨3, _⟩ => ⟨S1x2176x128, .bf16⟩
  | .local _ .vmem, ⟨4, _⟩ => ⟨S1x2176x128, .bf16⟩
  | .local _ .vmem, ⟨5, _⟩ => ⟨S1x2176x128, .bf16⟩
  | .local _ .vmem, ⟨6, _⟩ => ⟨S16x64x192, .f32⟩
  | .local _ .vmem, ⟨7, _⟩ => ⟨S1x128x1024, .bf16⟩
  | .local _ .vmem, ⟨8, _⟩ => ⟨S1x128x1024, .bf16⟩
  | .local _ .smem, ⟨0, _⟩ => ⟨S16, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c64_i32 : BitVec 32 := 64#32
  let v2 : BitVec 32 := Scalar.muli v1 c64_i32
  v2
def k0_off1 (i : grid0.Coords) (c0_i32 : BitVec 32) : Fin 3 → Nat :=
  let c0 : Index := 0#32
  let arg1 : BitVec 32 := BitVec.ofNat 32 (i 1).val
  let c2_i32 : BitVec 32 := 2#32
  let v0 : BitVec 32 := Scalar.muli arg1 c2_i32
  let v1 : BitVec 32 := Scalar.addi v0 c0_i32
  let c64_i32 : BitVec 32 := 64#32
  let v2 : BitVec 32 := Scalar.muli v1 c64_i32
  let v3 : BitVec 32 := v2
  let v4 : Index := Scalar.indexCast v3
  let c0_0 : Index := 0#32
  ![0, v4.toNat, 0]
def k0_mult2 (i : grid0.Coords) : BitVec 32 :=
  let arg1 : BitVec 32 := BitVec.ofNat 32 (i 1).val
  let c2_i32_228 : BitVec 32 := 2#32
  let v575 : BitVec 32 := Scalar.muli arg1 c2_i32_228
  let c1_i32 : BitVec 32 := 1#32
  let v576 : BitVec 32 := Scalar.addi v575 c1_i32
  let c64_i32_229 : BitVec 32 := 64#32
  let v577 : BitVec 32 := Scalar.muli v576 c64_i32_229
  v577
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x64x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x2048x1024 : Shape := ⟨3, ![8, 2048, 1024]⟩
abbrev S8x2048x128 : Shape := ⟨3, ![8, 2048, 128]⟩
abbrev S16x64x192 : Shape := ⟨3, ![16, 64, 192]⟩
abbrev S16 : Shape := ⟨1, ![16]⟩
abbrev S8x32x64x2x8x64 : Shape := ⟨6, ![8, 32, 64, 2, 8, 64]⟩
abbrev S8x2048x2x64 : Shape := ⟨4, ![8, 2048, 2, 64]⟩
abbrev S_ : Shape := ⟨0, ![]⟩
abbrev S8x2176x2x64 : Shape := ⟨4, ![8, 2176, 2, 64]⟩
abbrev S8x34x64x2x64 : Shape := ⟨5, ![8, 34, 64, 2, 64]⟩
abbrev S8x32x64x2x64 : Shape := ⟨5, ![8, 32, 64, 2, 64]⟩
abbrev S8x32x192x2x64 : Shape := ⟨5, ![8, 32, 192, 2, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S1x32x1x1x1x192 : Shape := ⟨6, ![1, 32, 1, 1, 1, 192]⟩
abbrev S8x32x2x192x64x8 : Shape := ⟨6, ![8, 32, 2, 192, 64, 8]⟩
abbrev S8x32x2x8x64x192 : Shape := ⟨6, ![8, 32, 2, 8, 64, 192]⟩
abbrev S2x8x64x192 : Shape := ⟨4, ![2, 8, 64, 192]⟩
abbrev S1x1x2x8x64x192 : Shape := ⟨6, ![1, 1, 2, 8, 64, 192]⟩
abbrev S2x8x1x1 : Shape := ⟨4, ![2, 8, 1, 1]⟩
abbrev S8x32x2x8x64x1 : Shape := ⟨6, ![8, 32, 2, 8, 64, 1]⟩
abbrev S8x32x2x8x64x193 : Shape := ⟨6, ![8, 32, 2, 8, 64, 193]⟩
abbrev S8x32x2x8x64 : Shape := ⟨5, ![8, 32, 2, 8, 64]⟩
abbrev S8x32x2x64x8x64 : Shape := ⟨6, ![8, 32, 2, 64, 8, 64]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x128, .f32⟩
  | .hbm, ⟨2, _⟩ => ⟨S8x2048x128, .f32⟩
  | .hbm, ⟨3, _⟩ => ⟨S16x64x192, .f32⟩
  | .hbm, ⟨4, _⟩ => ⟨S16, .f32⟩
  | .hbm, ⟨5, _⟩ => ⟨S8x32x64x2x8x64, .f32⟩
  | .hbm, ⟨6, _⟩ => ⟨S8x2048x2x64, .f32⟩
  | .hbm, ⟨7, _⟩ => ⟨S_, .i32⟩
  | .hbm, ⟨8, _⟩ => ⟨S_, .f32⟩
  | .hbm, ⟨9, _⟩ => ⟨S8x2176x2x64, .f32⟩
  | .hbm, ⟨10, _⟩ => ⟨S8x34x64x2x64, .f32⟩
  | .hbm, ⟨11, _⟩ => ⟨S8x2048x2x64, .f32⟩
  | .hbm, ⟨12, _⟩ => ⟨S_, .i32⟩
  | .hbm, ⟨13, _⟩ => ⟨S_, .f32⟩
  | .hbm, ⟨14, _⟩ => ⟨S8x2176x2x64, .f32⟩
  | .hbm, ⟨15, _⟩ => ⟨S8x34x64x2x64, .f32⟩
  | .hbm, ⟨16, _⟩ => ⟨S8x32x64x2x64, .f32⟩
  | .hbm, ⟨17, _⟩ => ⟨S8x32x64x2x64, .f32⟩
  | .hbm, ⟨18, _⟩ => ⟨S8x32x64x2x64, .f32⟩
  | .hbm, ⟨19, _⟩ => ⟨S8x32x192x2x64, .f32⟩
  | .hbm, ⟨20, _⟩ => ⟨S8x32x64x2x64, .f32⟩
  | .hbm, ⟨21, _⟩ => ⟨S8x32x64x2x64, .f32⟩
  | .hbm, ⟨22, _⟩ => ⟨S8x32x64x2x64, .f32⟩
  | .hbm, ⟨23, _⟩ => ⟨S8x32x192x2x64, .f32⟩
  | .hbm, ⟨24, _⟩ => ⟨S32, .i32⟩
  | .hbm, ⟨25, _⟩ => ⟨S32x1, .i32⟩
  | .hbm, ⟨26, _⟩ => ⟨S_, .i32⟩
  | .hbm, ⟨27, _⟩ => ⟨S32x1, .i32⟩
  | .hbm, ⟨28, _⟩ => ⟨S32x1, .i32⟩
  | .hbm, ⟨29, _⟩ => ⟨S_, .i32⟩
  | .hbm, ⟨30, _⟩ => ⟨S32x1, .i32⟩
  | .hbm, ⟨31, _⟩ => ⟨S32x1, .i32⟩
  | .hbm, ⟨32, _⟩ => ⟨S192, .i32⟩
  | .hbm, ⟨33, _⟩ => ⟨S1x192, .i32⟩
  | .hbm, ⟨34, _⟩ => ⟨S32x192, .i32⟩
  | .hbm, ⟨35, _⟩ => ⟨S32x192, .i32⟩
  | .hbm, ⟨36, _⟩ => ⟨S32x192, .i32⟩
  | .hbm, ⟨37, _⟩ => ⟨S_, .i32⟩
  | .hbm, ⟨38, _⟩ => ⟨S32x192, .i32⟩
  | .hbm, ⟨39, _⟩ => ⟨S32x192, .i1⟩
  | .hbm, ⟨40, _⟩ => ⟨S1x32x1x1x1x192, .i1⟩
  | .hbm, ⟨41, _⟩ => ⟨S8x32x2x192x64x8, .f32⟩
  | .hbm, ⟨42, _⟩ => ⟨S8x32x2x8x64x192, .f32⟩
  | .hbm, ⟨43, _⟩ => ⟨S_, .f32⟩
  | .hbm, ⟨44, _⟩ => ⟨S8x32x2x8x64x192, .f32⟩
  | .hbm, ⟨45, _⟩ => ⟨S8x32x2x8x64x192, .f32⟩
  | .hbm, ⟨46, _⟩ => ⟨S2x8x64x192, .f32⟩
  | .hbm, ⟨47, _⟩ => ⟨S1x1x2x8x64x192, .f32⟩
  | .hbm, ⟨48, _⟩ => ⟨S8x32x2x8x64x192, .f32⟩
  | .hbm, ⟨49, _⟩ => ⟨S8x32x2x8x64x192, .f32⟩
  | .hbm, ⟨50, _⟩ => ⟨S_, .f32⟩
  | .hbm, ⟨51, _⟩ => ⟨S_, .f32⟩
  | .hbm, ⟨52, _⟩ => ⟨S8x32x2x8x64x192, .i1⟩
  | .hbm, ⟨53, _⟩ => ⟨S8x32x2x8x64x192, .f32⟩
  | .hbm, ⟨54, _⟩ => ⟨S8x32x2x8x64x192, .f32⟩
  | .hbm, ⟨55, _⟩ => ⟨S2x8x1x1, .f32⟩
  | .hbm, ⟨56, _⟩ => ⟨S8x32x2x8x64x1, .f32⟩
  | .hbm, ⟨57, _⟩ => ⟨S8x32x2x8x64x193, .f32⟩
  | .hbm, ⟨58, _⟩ => ⟨S_, .f32⟩
  | .hbm, ⟨59, _⟩ => ⟨S8x32x2x8x64, .f32⟩
  | .hbm, ⟨60, _⟩ => ⟨S_, .f32⟩
  | .hbm, ⟨61, _⟩ => ⟨S8x32x2x8x64, .f32⟩
  | .hbm, ⟨62, _⟩ => ⟨S8x32x2x8x64, .f32⟩
  | .hbm, ⟨63, _⟩ => ⟨S8x32x2x8x64x1, .f32⟩
  | .hbm, ⟨64, _⟩ => ⟨S8x32x2x8x64x193, .f32⟩
  | .hbm, ⟨65, _⟩ => ⟨S8x32x2x8x64x193, .f32⟩
  | .hbm, ⟨66, _⟩ => ⟨S8x32x2x8x64x193, .f32⟩
  | .hbm, ⟨67, _⟩ => ⟨S_, .f32⟩
  | .hbm, ⟨68, _⟩ => ⟨S8x32x2x8x64, .f32⟩
  | .hbm, ⟨69, _⟩ => ⟨S8x32x2x8x64x1, .f32⟩
  | .hbm, ⟨70, _⟩ => ⟨S8x32x2x8x64x193, .f32⟩
  | .hbm, ⟨71, _⟩ => ⟨S8x32x2x8x64x193, .f32⟩
  | .hbm, ⟨72, _⟩ => ⟨S8x32x2x8x64x192, .f32⟩
  | .hbm, ⟨73, _⟩ => ⟨S8x32x2x64x8x64, .f32⟩
  | .hbm, ⟨74, _⟩ => ⟨S8x32x64x2x8x64, .f32⟩
  | .hbm, ⟨75, _⟩ => ⟨S8x2048x1024, .f32⟩
  | .hbm, ⟨76, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== NormQ.lean ====
abbrev S8x2048x2048 : Shape := ⟨3, ![8, 2048, 2048]⟩
abbrev S2048 : Shape := ⟨1, ![2048]⟩
abbrev S2048x7424 : Shape := ⟨2, ![2048, 7424]⟩
abbrev S16384x2048 : Shape := ⟨2, ![16384, 2048]⟩
abbrev S2048x1024 : Shape := ⟨2, ![2048, 1024]⟩
abbrev S1x2048 : Shape := ⟨2, ![1, 2048]⟩
abbrev S16384x1024 : Shape := ⟨2, ![16384, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x7424, .f32⟩
  | .hbm, ⟨3, _⟩ => ⟨S16384x2048, .f32⟩
  | .hbm, ⟨4, _⟩ => ⟨S2048x7424, .bf16⟩
  | .hbm, ⟨5, _⟩ => ⟨S2048x1024, .bf16⟩
  | .hbm, ⟨6, _⟩ => ⟨S1x2048, .f32⟩
  | .hbm, ⟨7, _⟩ => ⟨S16384x2048, .bf16⟩
  | .hbm, ⟨8, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormQRefIdeal.lean ====
abbrev S8x2048x2048 : Shape := ⟨3, ![8, 2048, 2048]⟩
abbrev S2048 : Shape := ⟨1, ![2048]⟩
abbrev S2048x7424 : Shape := ⟨2, ![2048, 7424]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x7424 : Shape := ⟨3, ![8, 2048, 7424]⟩
abbrev S8x2048x1024 : Shape := ⟨3, ![8, 2048, 1024]⟩
abbrev S16384x2048 : Shape := ⟨2, ![16384, 2048]⟩
abbrev S16384x1024 : Shape := ⟨2, ![16384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x7424, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x7424, .f32⟩
  | .hbm, ⟨20, _⟩ => ⟨S8x2048x1024, .f32⟩
  | .hbm, ⟨21, _⟩ => ⟨S16384x2048, .f32⟩
  | .hbm, ⟨22, _⟩ => ⟨S16384x2048, .bf16⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | .hbm, ⟨27, _⟩ => ⟨S16384x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== ProjKv.lean ====
abbrev S16384x2048 : Shape := ⟨2, ![16384, 2048]⟩
abbrev S2048x7424 : Shape := ⟨2, ![2048, 7424]⟩
abbrev S2048x256 : Shape := ⟨2, ![2048, 256]⟩
abbrev S16384x256 : Shape := ⟨2, ![16384, 256]⟩
abbrev S1024x2048 : Shape := ⟨2, ![1024, 2048]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S2048x7424, .bf16⟩
  | .hbm, ⟨3, _⟩ => ⟨S2048x256, .bf16⟩
  | .hbm, ⟨4, _⟩ => ⟨S16384x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjKvRefIdeal.lean ====
abbrev S16384x2048 : Shape := ⟨2, ![16384, 2048]⟩
abbrev S2048x7424 : Shape := ⟨2, ![2048, 7424]⟩
abbrev S16384x7424 : Shape := ⟨2, ![16384, 7424]⟩
abbrev S16384x256 : Shape := ⟨2, ![16384, 256]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S16384x2048, .f32⟩
  | .hbm, ⟨3, _⟩ => ⟨S16384x7424, .f32⟩
  | .hbm, ⟨4, _⟩ => ⟨S16384x256, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjU.lean ====
abbrev S16384x2048 : Shape := ⟨2, ![16384, 2048]⟩
abbrev S2048x7424 : Shape := ⟨2, ![2048, 7424]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S2048x7424, .bf16⟩
  | .hbm, ⟨3, _⟩ => ⟨S2048x1024, .bf16⟩
  | .hbm, ⟨4, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjURefIdeal.lean ====
abbrev S16384x2048 : Shape := ⟨2, ![16384, 2048]⟩
abbrev S2048x7424 : Shape := ⟨2, ![2048, 7424]⟩
abbrev S16384x7424 : Shape := ⟨2, ![16384, 7424]⟩
abbrev S16384x1024 : Shape := ⟨2, ![16384, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S16384x2048, .f32⟩
  | .hbm, ⟨3, _⟩ => ⟨S16384x7424, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ProjVs.lean ====
abbrev S16384x2048 : Shape := ⟨2, ![16384, 2048]⟩
abbrev S2048x7424 : Shape := ⟨2, ![2048, 7424]⟩
abbrev S1024 : Shape := ⟨1, ![1024]⟩
abbrev S2048x1024 : Shape := ⟨2, ![2048, 1024]⟩
abbrev S1x1024 : Shape := ⟨2, ![1, 1024]⟩
abbrev S16384x1024 : Shape := ⟨2, ![16384, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S1024, .f32⟩
  | .hbm, ⟨3, _⟩ => ⟨S2048x7424, .bf16⟩
  | .hbm, ⟨4, _⟩ => ⟨S2048x1024, .bf16⟩
  | .hbm, ⟨5, _⟩ => ⟨S1x1024, .f32⟩
  | .hbm, ⟨6, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjVsRefIdeal.lean ====
abbrev S16384x2048 : Shape := ⟨2, ![16384, 2048]⟩
abbrev S2048x7424 : Shape := ⟨2, ![2048, 7424]⟩
abbrev S1024 : Shape := ⟨1, ![1024]⟩
abbrev S16384x7424 : Shape := ⟨2, ![16384, 7424]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S1024, .f32⟩
  | .hbm, ⟨3, _⟩ => ⟨S16384x2048, .f32⟩
  | .hbm, ⟨4, _⟩ => ⟨S16384x7424, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== ProjGates.lean ====
abbrev S16384x2048 : Shape := ⟨2, ![16384, 2048]⟩
abbrev S2048x7424 : Shape := ⟨2, ![2048, 7424]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S2048x7424, .bf16⟩
  | .hbm, ⟨3, _⟩ => ⟨S2048x4096, .bf16⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGatesRefIdeal.lean ====
abbrev S16384x2048 : Shape := ⟨2, ![16384, 2048]⟩
abbrev S2048x7424 : Shape := ⟨2, ![2048, 7424]⟩
abbrev S16384x7424 : Shape := ⟨2, ![16384, 7424]⟩
abbrev S16384x4096 : Shape := ⟨2, ![16384, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7424, .f32⟩
  | .hbm, ⟨2, _⟩ => ⟨S16384x2048, .f32⟩
  | .hbm, ⟨3, _⟩ => ⟨S16384x7424, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Sgu.lean ====
abbrev S16384x1024 : Shape := ⟨2, ![16384, 1024]⟩
abbrev S8x128x128 : Shape := ⟨3, ![8, 128, 128]⟩
abbrev S8x128 : Shape := ⟨2, ![8, 128]⟩
abbrev S128x128x1024 : Shape := ⟨3, ![128, 128, 1024]⟩
abbrev S128x8 : Shape := ⟨2, ![128, 8]⟩
abbrev S128x8x128 : Shape := ⟨3, ![128, 8, 128]⟩
abbrev S128x1024 : Shape := ⟨2, ![128, 1024]⟩
abbrev S1x128x1024 : Shape := ⟨3, ![1, 128, 1024]⟩
abbrev S128x128 : Shape := ⟨2, ![128, 128]⟩
abbrev S1x128x128 : Shape := ⟨3, ![1, 128, 128]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S8x128x128, .f32⟩
  | .hbm, ⟨3, _⟩ => ⟨S8x128, .f32⟩
  | .hbm, ⟨4, _⟩ => ⟨S128x128x1024, .bf16⟩
  | .hbm, ⟨5, _⟩ => ⟨S128x128x1024, .f32⟩
  | .hbm, ⟨6, _⟩ => ⟨S128x8, .f32⟩
  | .hbm, ⟨7, _⟩ => ⟨S128x8x128, .f32⟩
  | .hbm, ⟨8, _⟩ => ⟨S128x1024, .f32⟩
  | .hbm, ⟨9, _⟩ => ⟨S128x128x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S8x128x128, .f32⟩
  | .local _ .vmem, ⟨5, _⟩ => ⟨S128x1024, .f32⟩
  | .local _ .vmem, ⟨6, _⟩ => ⟨S1x128x1024, .bf16⟩
  | .local _ .vmem, ⟨7, _⟩ => ⟨S1x128x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SguRefIdeal.lean ====
abbrev S16384x1024 : Shape := ⟨2, ![16384, 1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S8x16x128x8x128 : Shape := ⟨5, ![8, 16, 128, 8, 128]⟩
abbrev S8x8x16x128x128 : Shape := ⟨5, ![8, 8, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S128x128x1024 : Shape := ⟨3, ![128, 128, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S8x128x128, .f32⟩
  | .hbm, ⟨3, _⟩ => ⟨S8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S_, .f32⟩
  | .hbm, ⟨16, _⟩ => ⟨S_, .f32⟩
  | .hbm, ⟨17, _⟩ => ⟨S8x128x128, .i1⟩
  | .hbm, ⟨18, _⟩ => ⟨S8x128x128, .f32⟩
  | .hbm, ⟨19, _⟩ => ⟨S8x128x128, .f32⟩
  | .hbm, ⟨20, _⟩ => ⟨S16384x1024, .f32⟩
  | .hbm, ⟨21, _⟩ => ⟨S8x16x128x8x128, .f32⟩
  | .hbm, ⟨22, _⟩ => ⟨S8x16x128x8x128, .f32⟩
  | .hbm, ⟨23, _⟩ => ⟨S8x8x16x128x128, .f32⟩
  | .hbm, ⟨24, _⟩ => ⟨S8x16x128x8x128, .f32⟩
  | .hbm, ⟨25, _⟩ => ⟨S128x8, .f32⟩
  | .hbm, ⟨26, _⟩ => ⟨S128x8x1, .f32⟩
  | .hbm, ⟨27, _⟩ => ⟨S1x1x128x8x1, .f32⟩
  | .hbm, ⟨28, _⟩ => ⟨S8x16x128x8x128, .f32⟩
  | .hbm, ⟨29, _⟩ => ⟨S8x16x128x8x128, .f32⟩
  | .hbm, ⟨30, _⟩ => ⟨S8x16x128x8x128, .f32⟩
  | .hbm, ⟨31, _⟩ => ⟨S128x128x1024, .f32⟩
  | .hbm, ⟨32, _⟩ => ⟨S128x128x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== Merge.lean ====
abbrev S16384x1024 : Shape := ⟨2, ![16384, 1024]⟩
abbrev S16384x4096 : Shape := ⟨2, ![16384, 4096]⟩
abbrev S8x2048x2048 : Shape := ⟨3, ![8, 2048, 2048]⟩
abbrev S1024x2048 : Shape := ⟨2, ![1024, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S256x1024 : Shape := ⟨2, ![256, 1024]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x2048, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16384x1024 : Shape := ⟨2, ![16384, 1024]⟩
abbrev S16384x4096 : Shape := ⟨2, ![16384, 4096]⟩
abbrev S8x2048x2048 : Shape := ⟨3, ![8, 2048, 2048]⟩
abbrev S1024x2048 : Shape := ⟨2, ![1024, 2048]⟩
abbrev S2048x2048 : Shape := ⟨2, ![2048, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S16384x1024, .f32⟩
  | .hbm, ⟨13, _⟩ => ⟨S16384x2048, .f32⟩
  | .hbm, ⟨14, _⟩ => ⟨S16384x2048, .f32⟩
  | .hbm, ⟨15, _⟩ => ⟨S16384x1024, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== PeerQuery.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048x2048, .bf16⟩
  | .hbm, ⟨3, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQueryRefIdeal.lean ====
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjKvS.lean ====
abbrev S128x2048 : Shape := ⟨2, ![128, 2048]⟩
abbrev S2048x7424 : Shape := ⟨2, ![2048, 7424]⟩
abbrev S2048x256 : Shape := ⟨2, ![2048, 256]⟩
abbrev S128x256 : Shape := ⟨2, ![128, 256]⟩

abbrev nBuf : Space → Nat
  | .hbm => 5
  | .vmem => 3
  | .smem => 0
  | _ => 0

abbrev bufTy : (tb : Table) → Fin (tcTables nBuf tb) → BufTy
  | .hbm, ⟨0, _⟩ => ⟨S128x2048, .bf16⟩
  | .hbm, ⟨1, _⟩ => ⟨S2048x7424, .f32⟩
  | .hbm, ⟨2, _⟩ => ⟨S2048x7424, .bf16⟩
  | .hbm, ⟨3, _⟩ => ⟨S2048x256, .bf16⟩
  | .hbm, ⟨4, _⟩ => ⟨S128x256, .f32⟩
  | .local _ .vmem, ⟨0, _⟩ => ⟨S128x2048, .bf16⟩
  | .local _ .vmem, ⟨1, _⟩ => ⟨S2048x256, .bf16⟩
  | .local _ .vmem, ⟨2, _⟩ => ⟨S128x256, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ProjKvSRefIdeal.lean ====
abbrev S128x2048 : Shape := ⟨2, ![128, 2048]⟩
abbrev S2048x7424 : Shape := ⟨2, ![2048, 7424]⟩
abbrev S128x7424 : Shape := ⟨2, ![128, 7424]⟩
abbrev S128x256 : Shape := ⟨2, ![128, 256]⟩

abbrev nBuf : Space → Nat
  | .hbm => 5
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x7424, .f32⟩
  | .hbm, ⟨2, _⟩ => ⟨S128x2048, .f32⟩
  | .hbm, ⟨3, _⟩ => ⟨S128x7424, .f32⟩
  | .hbm, ⟨4, _⟩ => ⟨S128x256, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjVsS.lean ====
abbrev S128x2048 : Shape := ⟨2, ![128, 2048]⟩
abbrev S2048x7424 : Shape := ⟨2, ![2048, 7424]⟩
abbrev S1024 : Shape := ⟨1, ![1024]⟩
abbrev S2048x1024 : Shape := ⟨2, ![2048, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩

abbrev nBuf : Space → Nat
  | .hbm => 7
  | .vmem => 4
  | .smem => 0
  | _ => 0

abbrev bufTy : (tb : Table) → Fin (tcTables nBuf tb) → BufTy
  | .hbm, ⟨0, _⟩ => ⟨S128x2048, .bf16⟩
  | .hbm, ⟨1, _⟩ => ⟨S2048x7424, .f32⟩
  | .hbm, ⟨2, _⟩ => ⟨S1024, .f32⟩
  | .hbm, ⟨3, _⟩ => ⟨S2048x7424, .bf16⟩
  | .hbm, ⟨4, _⟩ => ⟨S2048x1024, .bf16⟩
  | .hbm, ⟨5, _⟩ => ⟨S1x1024, .f32⟩
  | .hbm, ⟨6, _⟩ => ⟨S128x1024, .f32⟩
  | .local _ .vmem, ⟨0, _⟩ => ⟨S128x2048, .bf16⟩
  | .local _ .vmem, ⟨1, _⟩ => ⟨S2048x1024, .bf16⟩
  | .local _ .vmem, ⟨2, _⟩ => ⟨S1x1024, .f32⟩
  | .local _ .vmem, ⟨3, _⟩ => ⟨S128x1024, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ProjVsSRefIdeal.lean ====
abbrev S128x2048 : Shape := ⟨2, ![128, 2048]⟩
abbrev S2048x7424 : Shape := ⟨2, ![2048, 7424]⟩
abbrev S1024 : Shape := ⟨1, ![1024]⟩
abbrev S128x7424 : Shape := ⟨2, ![128, 7424]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x7424, .f32⟩
  | .hbm, ⟨2, _⟩ => ⟨S1024, .f32⟩
  | .hbm, ⟨3, _⟩ => ⟨S128x2048, .f32⟩
  | .hbm, ⟨4, _⟩ => ⟨S128x7424, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x1024, .f32⟩
  | .hbm, ⟨35, _⟩ => ⟨S128x1024, .f32⟩
  | .hbm, ⟨36, _⟩ => ⟨S1x1024, .f32⟩
  | .hbm, ⟨37, _⟩ => ⟨S128x1024, .f32⟩
  | .hbm, ⟨38, _⟩ => ⟨S128x1024, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== PeerExperts.lean ====
abbrev S16384x2048 : Shape := ⟨2, ![16384, 2048]⟩
abbrev S1024x16384 : Shape := ⟨2, ![1024, 16384]⟩
abbrev S8x128x16384 : Shape := ⟨3, ![8, 128, 16384]⟩
abbrev S2048 : Shape := ⟨1, ![2048]⟩
abbrev S2048x16384 : Shape := ⟨2, ![2048, 16384]⟩
abbrev S1x2048 : Shape := ⟨2, ![1, 2048]⟩
abbrev S512x2048 : Shape := ⟨2, ![512, 2048]⟩
abbrev S1024x2048 : Shape := ⟨2, ![1024, 2048]⟩
abbrev S2048x1024 : Shape := ⟨2, ![2048, 1024]⟩
abbrev S1024x512 : Shape := ⟨2, ![1024, 512]⟩
abbrev S8x8x512 : Shape := ⟨3, ![8, 8, 512]⟩
abbrev S2048x512 : Shape := ⟨2, ![2048, 512]⟩
abbrev S256x2048 : Shape := ⟨2, ![256, 2048]⟩
abbrev S256x512 : Shape := ⟨2, ![256, 512]⟩
abbrev S128x512 : Shape := ⟨2, ![128, 512]⟩
abbrev S1x1x512 : Shape := ⟨3, ![1, 1, 512]⟩
abbrev S1x512 : Shape := ⟨2, ![1, 512]⟩
abbrev S2048x256 : Shape := ⟨2, ![2048, 256]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S1024x16384, .bf16⟩
  | .hbm, ⟨4, _⟩ => ⟨S1024x16384, .bf16⟩
  | .hbm, ⟨5, _⟩ => ⟨S8x128x16384, .f32⟩
  | .hbm, ⟨6, _⟩ => ⟨S8x128x16384, .f32⟩
  | .hbm, ⟨7, _⟩ => ⟨S16384x2048, .f32⟩
  | .hbm, ⟨8, _⟩ => ⟨S2048, .f32⟩
  | .hbm, ⟨9, _⟩ => ⟨S16384x2048, .bf16⟩
  | .hbm, ⟨10, _⟩ => ⟨S2048x16384, .f32⟩
  | .hbm, ⟨11, _⟩ => ⟨S2048x16384, .bf16⟩
  | .hbm, ⟨12, _⟩ => ⟨S1x2048, .f32⟩
  | .hbm, ⟨13, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S8x8x512, .f32⟩
  | .local _ .vmem, ⟨11, _⟩ => ⟨S8x8x512, .f32⟩
  | .local _ .vmem, ⟨12, _⟩ => ⟨S8x8x512, .f32⟩
  | .local _ .vmem, ⟨13, _⟩ => ⟨S8x8x512, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v1247 : BitVec 1 := Scalar.cmpi .eq arg1 c15_i32
  let v1248 : BitVec 32 := Scalar.extui v1247
  let c0_i32_761 : BitVec 32 := 0#32
  let v1249 : BitVec 1 := Scalar.cmpi .ne v1248 c0_i32_761
  v1249

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PeerExpertsIdeal.lean ====
variable {F : FTy → Type} [FloatOps F] [Named F]
def κ : String → Option EReal := fun
  | "c_alpha" => some ((80338380498831 / 2251799813685248 : ℝ) : EReal)
  | _ => none
-- ==== PeerExpertsRefIdeal.lean ====
abbrev S16384x2048 : Shape := ⟨2, ![16384, 2048]⟩
abbrev S1024x16384 : Shape := ⟨2, ![1024, 16384]⟩
abbrev S8x128x16384 : Shape := ⟨3, ![8, 128, 16384]⟩
abbrev S2048 : Shape := ⟨1, ![2048]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S16384 : Shape := ⟨1, ![16384]⟩
abbrev S16384x1 : Shape := ⟨2, ![16384, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S1024x16384, .bf16⟩
  | .hbm, ⟨4, _⟩ => ⟨S1024x16384, .bf16⟩
  | .hbm, ⟨5, _⟩ => ⟨S8x128x16384, .f32⟩
  | .hbm, ⟨6, _⟩ => ⟨S8x128x16384, .f32⟩
  | .hbm, ⟨7, _⟩ => ⟨S16384x2048, .f32⟩
  | .hbm, ⟨8, _⟩ => ⟨S2048, .f32⟩
  | .hbm, ⟨9, _⟩ => ⟨S16384x2048, .f32⟩
  | .hbm, ⟨10, _⟩ => ⟨S1024x16384, .f32⟩
  | .hbm, ⟨11, _⟩ => ⟨S8x1x128x16384, .f32⟩
  | .hbm, ⟨12, _⟩ => ⟨S1024x16384, .f32⟩
  | .hbm, ⟨13, _⟩ => ⟨S8x1x128x16384, .f32⟩
  | .hbm, ⟨14, _⟩ => ⟨S8x128x1x16384, .f32⟩
  | .hbm, ⟨15, _⟩ => ⟨S8x128x128x16384, .f32⟩
  | .hbm, ⟨16, _⟩ => ⟨S8x128x128x16384, .f32⟩
  | .hbm, ⟨17, _⟩ => ⟨S8x128x128x16384, .i1⟩
  | .hbm, ⟨18, _⟩ => ⟨S8x128x1x16384, .f32⟩
  | .hbm, ⟨19, _⟩ => ⟨S8x128x128x16384, .f32⟩
  | .hbm, ⟨20, _⟩ => ⟨S8x128x128x16384, .f32⟩
  | .hbm, ⟨21, _⟩ => ⟨S8x128x128x16384, .f32⟩
  | .hbm, ⟨22, _⟩ => ⟨S_, .f32⟩
  | .hbm, ⟨23, _⟩ => ⟨S_, .f32⟩
  | .hbm, ⟨24, _⟩ => ⟨S8x128x128x16384, .f32⟩
  | .hbm, ⟨25, _⟩ => ⟨S8x128x128x16384, .f32⟩
  | .hbm, ⟨26, _⟩ => ⟨S_, .f32⟩
  | .hbm, ⟨27, _⟩ => ⟨S128x128x16384, .f32⟩
  | .hbm, ⟨28, _⟩ => ⟨S16384x16384, .f32⟩
  | .hbm, ⟨29, _⟩ => ⟨S16384x16384, .f32⟩
  | .hbm, ⟨30, _⟩ => ⟨S16384x16384, .f32⟩
  | .hbm, ⟨31, _⟩ => ⟨S16384x16384, .f32⟩
  | .hbm, ⟨32, _⟩ => ⟨S_, .f32⟩
  | .hbm, ⟨33, _⟩ => ⟨S16384x16384, .f32⟩
  | .hbm, ⟨34, _⟩ => ⟨S16384x16384, .f32⟩
  | .hbm, ⟨35, _⟩ => ⟨S16384x16384, .f32⟩
  | .hbm, ⟨36, _⟩ => ⟨S_, .f32⟩
  | .hbm, ⟨37, _⟩ => ⟨S16384x16384, .f32⟩
  | .hbm, ⟨38, _⟩ => ⟨S16384x16384, .f32⟩
  | .hbm, ⟨39, _⟩ => ⟨S16384x16384, .f32⟩
  | .hbm, ⟨40, _⟩ => ⟨S_, .f32⟩
  | .hbm, ⟨41, _⟩ => ⟨S16384x16384, .f32⟩
  | .hbm, ⟨42, _⟩ => ⟨S16384x16384, .f32⟩
  | .hbm, ⟨43, _⟩ => ⟨S_, .f32⟩
  | .hbm, ⟨44, _⟩ => ⟨S16384x16384, .f32⟩
  | .hbm, ⟨45, _⟩ => ⟨S16384x16384, .f32⟩
  | .hbm, ⟨46, _⟩ => ⟨S16384x16384, .f32⟩
  | .hbm, ⟨47, _⟩ => ⟨S16384x16384, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Proof.NormQVal.lean ====
module

public import proofs.«01_k».proof.Proof.Gen.NormQIdeal.Frame
public import proofs.«01_k».proof.Proof.Gen.NormQRefIdeal.Read
public import Idealize.ShloMosaic.Lib.Pipeline.ValueKit
public import Idealize.ShloMosaic.Lib.Pointwise

/-! The input's root-mean-square norm and the scaled queries. -/

@[expose] public section

set_option maxRecDepth 16384

noncomputable section

open Idealize.ShloMosaic Idealize.ShloMosaic.TcCoe Idealize.SL.Sem
open Idealize.ShloMosaic.Pipeline (Dat)

namespace Cert.NormQIdeal.Value

open Cert.NormQIdeal Cert.NormQIdeal.Gen Cert.NormQRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The stored block of output window 3, entry by entry: the reference's array at the place the block covers. -/
theorem point3 (c : Dev nD) (t : Fin cfg0.N) (y) :
    k0_pay1 (iblk m c 0 t) (iblk m c 1 t) y
      = val_main_v16 (m ((c.tc : Thread nD τ).loc main_arg0)) (m ((c.tc : Thread nD τ).loc main_arg1))
          (((cfg0.win 3).blk t).view.emb y) := by
  pointwise [k0_pay1, val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_v12_apply, val_main_v15_apply, val_main_v16_apply]
  blk_point [iblk, V, idx t]

/-- The array the kernel leaves in output window 3 is the reference's. -/
theorem final3 (c : Dev nD) : (dats m 0 c).arrAt 3 (cfgs 0).N
    = val_main_v16 (m ((c.tc : Thread nD τ).loc main_arg0)) (m ((c.tc : Thread nD τ).loc main_arg1)) := by
  refine (dats m 0 c).arrAt_eq_of_covers 3 _ (by decide +kernel) fun t _ y => ?_
  blk_simp
  rw [after0_3]; frame_out
  exact point3 m c t y

/-- The stored block of output window 4, entry by entry: the reference's array at the place the block covers. -/
theorem point4 (c : Dev nD) (t : Fin cfg0.N) (y) :
    k0_pay2 (iblk m c 0 t) (iblk m c 1 t) (iblk m c 2 t) y
      = val_main_v20 (m ((c.tc : Thread nD τ).loc main_arg0)) (m ((c.tc : Thread nD τ).loc main_arg1)) (m ((c.tc : Thread nD τ).loc main_arg2))
          (((cfg0.win 4).blk t).view.emb y) := by
  pointwise [k0_pay2, k0_pay1, val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_v12_apply, val_main_v13_apply, val_main_v14_apply, val_main_cst_2_apply, val_main_v17_apply, val_main_v18_apply, val_main_v19_apply, val_main_v20_apply]
  blk_point [iblk, V, idx t]

/-- The array the kernel leaves in output window 4 is the reference's. -/
theorem final4 (c : Dev nD) : (dats m 0 c).arrAt 4 (cfgs 0).N
    = val_main_v20 (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]; frame_out
  exact point4 m c t y

end Cert.NormQIdeal.Value
-- ==== Proof.ProjKvVal.lean ====
module

public import proofs.«01_k».proof.Proof.Gen.ProjKvIdeal.Frame
public import proofs.«01_k».proof.Proof.Gen.ProjKvRefIdeal.Read
public import Idealize.ShloMosaic.Lib.Pipeline.ValueKit
public import Idealize.ShloMosaic.Lib.Pointwise

/-! The key and value projection: each row block of the normalised input times the two projections' columns. -/

@[expose] public section

set_option maxRecDepth 16384

noncomputable section

open Idealize.ShloMosaic Idealize.ShloMosaic.TcCoe Idealize.SL.Sem
open Idealize.ShloMosaic.Pipeline (Dat)

namespace Cert.ProjKvIdeal.Value

open Cert.ProjKvIdeal Cert.ProjKvIdeal.Gen Cert.ProjKvRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The stored block of output window 2, entry by entry: the reference's array at the place the block covers. -/
theorem point2 (c : Dev nD) (t : Fin cfg0.N) (y) :
    k0_pay1 (iblk m c 0 t) (iblk m c 1 t) y
      = val_main_v2 (m ((c.tc : Thread nD τ).loc main_arg0)) (m ((c.tc : Thread nD τ).loc main_arg1))
          (((cfg0.win 2).blk t).view.emb y) := by
  pointwise [k0_pay1, val_main_v2_apply, val_main_v1_apply]
  blk_point [iblk, V, idx t]

/-- The array the kernel leaves in output window 2 is the reference's. -/
theorem final2 (c : Dev nD) : (dats m 0 c).arrAt 2 (cfgs 0).N
    = val_main_v2 (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point2 m c t y

end Cert.ProjKvIdeal.Value
-- ==== Proof.ProjUVal.lean ====
module

public import proofs.«01_k».proof.Proof.Gen.ProjUIdeal.Frame
public import proofs.«01_k».proof.Proof.Gen.ProjURefIdeal.Read
public import Idealize.ShloMosaic.Lib.Pipeline.ValueKit
public import Idealize.ShloMosaic.Lib.Pointwise

/-! The gating branch's first projection: a matrix product followed by the tanh form of GELU. -/

@[expose] public section

set_option maxRecDepth 16384

noncomputable section

open Idealize.ShloMosaic Idealize.ShloMosaic.TcCoe Idealize.SL.Sem
open Idealize.ShloMosaic.Pipeline (Dat)

namespace Cert.ProjUIdeal.Value

open Cert.ProjUIdeal Cert.ProjUIdeal.Gen Cert.ProjURefIdeal.Read

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The stored block of output window 2, entry by entry: the reference's array at the place the block covers. -/
theorem point2 (c : Dev nD) (t : Fin cfg0.N) (y) :
    k0_pay1 (iblk m c 0 t) (iblk m c 1 t) y
      = val_main_v16 (m ((c.tc : Thread nD τ).loc main_arg0)) (m ((c.tc : Thread nD τ).loc main_arg1))
          (((cfg0.win 2).blk t).view.emb y) := by
  pointwise [k0_pay1, val_main_v0_apply, val_main_v1_apply, val_main_v2_apply, val_main_v3_apply, val_main_v4_apply, val_main_cst_apply, val_main_v5_apply, val_main_v6_apply, val_main_v7_apply, val_main_cst_0_apply, val_main_v8_apply, val_main_v9_apply, val_main_v10_apply, val_main_cst_1_apply, val_main_v11_apply, val_main_v12_apply, val_main_cst_2_apply, val_main_v13_apply, val_main_v14_apply, val_main_v15_apply, val_main_v16_apply]
  blk_point [iblk, V, idx t]

/-- The array the kernel leaves in output window 2 is the reference's. -/
theorem final2 (c : Dev nD) : (dats m 0 c).arrAt 2 (cfgs 0).N
    = val_main_v16 (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point2 m c t y

end Cert.ProjUIdeal.Value
-- ==== Proof.ProjVsVal.lean ====
module

public import proofs.«01_k».proof.Proof.Gen.ProjVsIdeal.Frame
public import proofs.«01_k».proof.Proof.Gen.ProjVsRefIdeal.Read
public import Idealize.ShloMosaic.Lib.Pipeline.ValueKit
public import Idealize.ShloMosaic.Lib.Pointwise

/-! The gating branch's second projection: a matrix product, the tanh form of GELU, and a root-mean-square norm of each row. -/

@[expose] public section

set_option maxRecDepth 16384

noncomputable section

open Idealize.ShloMosaic Idealize.ShloMosaic.TcCoe Idealize.SL.Sem
open Idealize.ShloMosaic.Pipeline (Dat)

namespace Cert.ProjVsIdeal.Value

open Cert.ProjVsIdeal Cert.ProjVsIdeal.Gen Cert.ProjVsRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- The stored block of output window 3, entry by entry: the reference's array at the place the block covers. -/
theorem point3 (c : Dev nD) (t : Fin cfg0.N) (y) :
    k0_pay1 (iblk m c 0 t) (iblk m c 1 t) (iblk m c 2 t) y
      = val_main_v28 (m ((c.tc : Thread nD τ).loc main_arg0)) (m ((c.tc : Thread nD τ).loc main_arg1)) (m ((c.tc : Thread nD τ).loc main_arg2))
          (((cfg0.win 3).blk t).view.emb y) := by
  pointwise [k0_pay1, val_main_v0_apply, val_main_v1_apply, val_main_v2_apply, val_main_v3_apply, val_main_v4_apply, val_main_cst_apply, val_main_v5_apply, val_main_v6_apply, val_main_v7_apply, val_main_cst_0_apply, val_main_v8_apply, val_main_v9_apply, val_main_v10_apply, val_main_cst_1_apply, val_main_v11_apply, val_main_v12_apply, val_main_cst_2_apply, val_main_v13_apply, val_main_v14_apply, val_main_v15_apply, val_main_v16_apply, val_main_cst_3_apply, val_main_v17_apply, val_main_v18_apply, val_main_cst_4_apply, val_main_v19_apply, val_main_v20_apply, val_main_cst_5_apply, val_main_v21_apply, val_main_v22_apply, val_main_v23_apply, val_main_v24_apply, val_main_v25_apply, val_main_v26_apply, val_main_v27_apply, val_main_v28_apply]
  blk_point [iblk, V, idx t]

/-- The array the kernel leaves in output window 3 is the reference's. -/
theorem final3 (c : Dev nD) : (dats m 0 c).arrAt 3 (cfgs 0).N
    = val_main_v28 (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; frame_out
  exact point3 m c t y

end Cert.ProjVsIdeal.Value
-- ==== Proof.ProjGatesVal.lean ====
module

public import proofs.«01_k».proof.Proof.Gen.ProjGatesIdeal.Frame
public import proofs.«01_k».proof.Proof.Gen.ProjGatesRefIdeal.Read
public import Idealize.ShloMosaic.Lib.Pipeline.ValueKit
public import Idealize.ShloMosaic.Lib.Pointwise

/-! The merge's gates: the logistic of a matrix product. -/

@[expose] public section

set_option maxRecDepth 16384

noncomputable section

open Idealize.ShloMosaic Idealize.ShloMosaic.TcCoe Idealize.SL.Sem
open Idealize.ShloMosaic.Pipeline (Dat)

namespace Cert.ProjGatesIdeal.Value

open Cert.ProjGatesIdeal Cert.ProjGatesIdeal.Gen Cert.ProjGatesRefIdeal.Read

variable (m : (ℓ : Loc nD τ sig) → Buf (Elt Ideal) ℓ)

/-- Where each window's block lies at a grid point. -/
theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

/-- The stored block of output window 2, entry by entry: the reference's array at the place the block covers. -/
theorem point2 (c : Dev nD) (t : Fin cfg0.N) (y) :
    k0_pay1 (iblk m c 0 t) (iblk m c 1 t) y
      = val_main_v9 (m ((c.tc : Thread nD τ).loc main_arg0)) (m ((c.tc : Thread nD τ).loc main_arg1))
          (((cfg0.win 2).blk t).view.emb y) := by
  have hd : (matmul (φ₁ := .bf16) (φ₂ := .bf16) dot_S1024x2048_S2048x1024_S1024x1024_1_0_0_1_n_n none (iblk m c 0 t : FVec Ideal S1024x2048 .bf16)
      (shapeCast S2048x1024 (iblk m c 1 t : FVec Ideal S2048x1024 .bf16) shapeCasts_S2048x1024_S2048x1024) (constant S1024x1024 .f32 0x00000000#32) : FVec Ideal S1024x1024 .f32) y
      = val_main_v2 (m ((c.tc : Thread nD τ).loc main_arg0)) (m ((c.tc : Thread nD τ).loc main_arg1))
          (((cfg0.win 2).blk t).view.emb y) := by
    pointwise [val_main_v2_apply, val_main_v1_apply, val_main_v0_apply]
    blk_point [iblk, V, idx t]
  refine (show _ = FloatOps.logistic _ from rfl).trans ((congrArg FloatOps.logistic hd).trans ?_)
  pointwise [val_main_v3_apply, val_main_v4_apply, val_main_cst_apply, val_main_v5_apply, val_main_v6_apply, val_main_cst_0_apply, val_main_v7_apply, val_main_v8_apply, val_main_v9_apply]
  simp only [Ideal.logistic]

/-- The array the kernel leaves in output window 2 is the reference's. -/
theorem final2 (c : Dev nD) : (dats m 0 c).arrAt 2 (cfgs 0).N
    = val_main_v9 (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point2 m c t y

end Cert.ProjGatesIdeal.Value
-- ==== Proof.SguVal.lean ====
module

public import proofs.«01_k».proof.Proof.Gen.SguIdeal.Frame
public import proofs.«01_k».proof.Proof.Gen.SguRefIdeal.Read
public import Idealize.ShloMosaic.Lib.Pipeline.ValueKit
public import Idealize.ShloMosaic.Lib.Pointwise

/-! The chunked spatial gating: each group's lower-triangular mixing matrix times the values of a block, plus its bias, times the gate. -/

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen Cert.SguRefIdeal.Read

variable (m : (ℓ : Loc nD τ sig) → Buf (Elt Ideal) ℓ)

/-- Where each window's block lies at a grid point. -/
theorem idx : ∀ t : Fin cfg0.N, win0_0.index t = ![t.val, 0, 0]
    ∧ win0_1.index t = ![t.val, 0, 0]
    ∧ win0_2.index t = ![0, 0, 0]
    ∧ win0_3.index t = ![0, 0]
    ∧ win0_4.index t = ![t.val, 0, 0] :=
  (by decide +kernel : ∀ t : Fin grid0.N, _)

/-- The reference's triangle, a comparison turned round and stored as a bit, is the kernel's. -/
theorem tril_bit (a b : BitVec 32) :
    Scalar.select (IntOp.cmpi .sge (IntOp.addi a 0#32) b) (1#1 : BitVec 1) 0#1 = IntOp.cmpi .sle b a := by
  have h : ∀ d : BitVec 1, Scalar.select d (1#1 : BitVec 1) 0#1 = d := by decide
  rw [h, show IntOp.addi a 0#32 = a from BitVec.add_zero a]
  rfl

/-- The reference's mixing product with the factors in the kernel's order. -/
theorem mix_apply (x1 : Vec Ideal S16384x1024 .f32) (x2 : Vec Ideal S8x128x128 .f32) (i) :
    val_main_v6 x1 x2 i = ∑ k, val_main_v2 x2 (ridx_main_v6 i k) * val_main_v5 x1 (lidx_main_v6 i k) :=
  (val_main_v6_apply x1 x2 i).trans (Finset.sum_congr rfl fun _ _ => mul_comm _ _)

set_option maxHeartbeats 2000000 in
/-- The stored block, entry by entry: each group's columns hold the reference's array at the place the block covers. -/
theorem point (c : Dev nD) (t : Fin cfg0.N) (y : S1x128x1024.Idx) :
    Gen.out0_4 (iblk m c 0 t) (iblk m c 1 t) (iblk m c 2 t) (iblk m c 3 t) y
      = val_main_v15 (m ((c.tc : Thread nD τ).loc main_arg0)) (m ((c.tc : Thread nD τ).loc main_arg1)) (m ((c.tc : Thread nD τ).loc main_arg2)) (m ((c.tc : Thread nD τ).loc main_arg3)) (((cfg0.win 4).blk t).view.emb y) := by
  canon_tiles x h
  all_goals
    open_payloads
    pointwise [val_main_c_apply, val_main_v0_apply, val_main_call0_v0_apply, val_main_call0_c_apply, val_main_call0_v1_apply, val_main_call0_v2_apply, val_main_call0_v3_apply, val_main_call0_v4_apply, val_main_call0_c_0_apply, val_main_call0_v5_apply, val_main_v1_apply, val_main_cst_apply, val_main_call1_v0_apply, val_main_call1_v1_apply, val_main_call1_v2_apply, val_main_v2_apply, val_main_v3_apply, val_main_v4_apply, val_main_v5_apply, mix_apply, val_main_v7_apply, val_main_v8_apply, val_main_v9_apply, val_main_v10_apply, val_main_v11_apply, val_main_v12_apply, val_main_v13_apply, val_main_v14_apply, val_main_v15_apply, tril_bit]
    blk_point [iblk, V, idx t]
  all_goals exact congrArg (BitVec.ofNat 32) (by omega)

/-- The array the kernel leaves in its output window is the reference's. -/
theorem final4 (c : Dev nD) : (dats m 0 c).arrAt 4 (cfgs 0).N
    = val_main_v15 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  exact point m c t y

end Cert.SguIdeal.Value
-- ==== Proof.MergeVal.lean ====
module

public import proofs.«01_k».proof.Proof.Gen.MergeIdeal.Frame
public import proofs.«01_k».proof.Proof.Gen.MergeRefIdeal.Read
public import Idealize.ShloMosaic.Lib.Pipeline.ValueKit
public import Idealize.ShloMosaic.Lib.Pointwise

/-! The gated merge of the two branches with its output projection, and the norm that follows it. -/

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.MergeRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0] :=
  (by decide +kernel : ∀ t : Fin grid0.N, _)

/-- The stored block of output window 8, entry by entry: the reference's array at the place the block covers. -/
theorem point8 (c : Dev nD) (t : Fin cfg0.N) (y) :
    (k0_pay2 (F := Ideal) (iblk m c 0 t) (iblk m c 4 t) (iblk m c 1 t) (iblk m c 5 t) (View.ld (iblk m c 2 t) r0_2) (View.ld (iblk m c 2 t) r0_3) (iblk m c 3 t) (iblk m c 6 t)) y
      = val_main_v13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (((cfg0.win 8).blk t).view.emb y) := by
  pointwise [k0_pay2, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply]
  blk_point [iblk, V, idx t]

/-- The array the kernel leaves in output window 8 is the reference's. -/
theorem final8 (c : Dev nD) : (dats m 0 c).arrAt 8 (cfgs 0).N
    = val_main_v13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t _ y => ?_
  blk_simp
  rw [after0_8]; frame_out
  exact point8 m c t y

/-- The stored block of output window 9, entry by entry: the reference's array at the place the block covers. -/
theorem point9 (c : Dev nD) (t : Fin cfg0.N) (y) :
    k0_pay1 (k0_pay2 (F := Ideal) (iblk m c 0 t) (iblk m c 4 t) (iblk m c 1 t) (iblk m c 5 t) (View.ld (iblk m c 2 t) r0_2) (View.ld (iblk m c 2 t) r0_3) (iblk m c 3 t) (iblk m c 6 t)) (k0_pay3 (F := Ideal) (iblk m c 7 t)) (k0_pay4 (F := Ideal) (iblk m c 0 t) (iblk m c 4 t) (iblk m c 1 t) (iblk m c 5 t) (View.ld (iblk m c 2 t) r0_2) (View.ld (iblk m c 2 t) r0_3) (iblk m c 3 t) (iblk m c 6 t)) y
      = val_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (((cfg0.win 9).blk t).view.emb y) := by
  have e := funext (point8 m c t)
  dsimp only [k0_pay4]
  rw [e]
  pointwise [k0_pay1, k0_pay3, val_main_v14_apply, val_main_cst_apply, val_main_v15_apply, val_main_v16_apply, val_main_cst_0_apply, val_main_v17_apply, val_main_v18_apply, val_main_cst_1_apply, val_main_v19_apply, val_main_v20_apply, val_main_v21_apply, val_main_v22_apply, val_main_v23_apply, val_main_v24_apply, val_main_v25_apply, val_main_v26_apply, val_main_v27_apply]
  blk_point [iblk, V, idx t]

/-- The array the kernel leaves in output window 9 is the reference's. -/
theorem final9 (c : Dev nD) : (dats m 0 c).arrAt 9 (cfgs 0).N
    = val_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 9 _ (by decide +kernel) fun t _ y => ?_
  blk_simp
  rw [after0_9]; frame_out
  exact point9 m c t y

end Cert.MergeIdeal.Value
-- ==== Proof.PeerQueryVal.lean ====
module

public import proofs.«01_k».proof.Proof.Gen.PeerQueryIdeal.Frame
public import proofs.«01_k».proof.Proof.Gen.PeerQueryRefIdeal.Read
public import Idealize.ShloMosaic.Lib.Pipeline.ValueKit
public import Idealize.ShloMosaic.Lib.Pointwise

/-! The queries of the product-key layer: each row block times each block of columns. -/

@[expose] public section

set_option maxRecDepth 16384

noncomputable section

open Idealize.ShloMosaic Idealize.ShloMosaic.TcCoe Idealize.SL.Sem
open Idealize.ShloMosaic.Pipeline (Dat)

namespace Cert.PeerQueryIdeal.Value

open Cert.PeerQueryIdeal Cert.PeerQueryIdeal.Gen Cert.PeerQueryRefIdeal.Read

variable (m : (ℓ : Loc nD τ sig) → Buf (Elt Ideal) ℓ)

/-- Where each window's block lies at a grid point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The stored block of output window 2, entry by entry: the reference's array at the place the block covers. -/
theorem point2 (c : Dev nD) (t : Fin cfg0.N) (y) :
    k0_pay1 (iblk m c 0 t) (iblk m c 1 t) y
      = val_main_v2 (m ((c.tc : Thread nD τ).loc main_arg0)) (m ((c.tc : Thread nD τ).loc main_arg1))
          (((cfg0.win 2).blk t).view.emb y) := by
  pointwise [k0_pay1, val_main_v2_apply, val_main_v1_apply, val_main_v0_apply]
  blk_point [iblk, V, idx t]

/-- The array the kernel leaves in output window 2 is the reference's. -/
theorem final2 (c : Dev nD) : (dats m 0 c).arrAt 2 (cfgs 0).N
    = val_main_v2 (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point2 m c t y

end Cert.PeerQueryIdeal.Value
-- ==== Proof.ProjKvSVal.lean ====
module

public import proofs.«01_k».proof.Proof.Gen.ProjKvSIdeal.Frame
public import proofs.«01_k».proof.Proof.Gen.ProjKvSRefIdeal.Read
public import Idealize.ShloMosaic.Lib.Pipeline.ValueKit
public import Idealize.ShloMosaic.Lib.Pointwise

/-! The key and value projection: each row block of the normalised input (of the sample) times the two projections' columns. -/

@[expose] public section

set_option maxRecDepth 16384

noncomputable section

open Idealize.ShloMosaic Idealize.ShloMosaic.TcCoe Idealize.SL.Sem
open Idealize.ShloMosaic.Pipeline (Dat)

namespace Cert.ProjKvSIdeal.Value

open Cert.ProjKvSIdeal Cert.ProjKvSIdeal.Gen Cert.ProjKvSRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The stored block of output window 2, entry by entry: the reference's array at the place the block covers. -/
theorem point2 (c : Dev nD) (t : Fin cfg0.N) (y) :
    k0_pay1 (iblk m c 0 t) (iblk m c 1 t) y
      = val_main_v2 (m ((c.tc : Thread nD τ).loc main_arg0)) (m ((c.tc : Thread nD τ).loc main_arg1))
          (((cfg0.win 2).blk t).view.emb y) := by
  pointwise [k0_pay1, val_main_v2_apply, val_main_v1_apply]
  blk_point [iblk, V, idx t]

/-- The array the kernel leaves in output window 2 is the reference's. -/
theorem final2 (c : Dev nD) : (dats m 0 c).arrAt 2 (cfgs 0).N
    = val_main_v2 (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point2 m c t y

end Cert.ProjKvSIdeal.Value
-- ==== Proof.ProjVsSVal.lean ====
module

public import proofs.«01_k».proof.Proof.Gen.ProjVsSIdeal.Frame
public import proofs.«01_k».proof.Proof.Gen.ProjVsSRefIdeal.Read
public import Idealize.ShloMosaic.Lib.Pipeline.ValueKit
public import Idealize.ShloMosaic.Lib.Pointwise

/-! The gating branch's second projection, of the sample: a matrix product, the tanh form of GELU, and a root-mean-square norm of each row. -/

@[expose] public section

set_option maxRecDepth 16384

noncomputable section

open Idealize.ShloMosaic Idealize.ShloMosaic.TcCoe Idealize.SL.Sem
open Idealize.ShloMosaic.Pipeline (Dat)

namespace Cert.ProjVsSIdeal.Value

open Cert.ProjVsSIdeal Cert.ProjVsSIdeal.Gen Cert.ProjVsSRefIdeal.Read

variable (m : (ℓ : Loc nD τ sig) → Buf (Elt Ideal) ℓ)

/-- Where each window's block lies at a grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- The stored block of output window 3, entry by entry: the reference's array at the place the block covers. -/
theorem point3 (c : Dev nD) (t : Fin cfg0.N) (y) :
    k0_pay1 (iblk m c 0 t) (iblk m c 1 t) (iblk m c 2 t) y
      = val_main_v28 (m ((c.tc : Thread nD τ).loc main_arg0)) (m ((c.tc : Thread nD τ).loc main_arg1)) (m ((c.tc : Thread nD τ).loc main_arg2))
          (((cfg0.win 3).blk t).view.emb y) := by
  pointwise [k0_pay1, val_main_v0_apply, val_main_v1_apply, val_main_v2_apply, val_main_v3_apply, val_main_v4_apply, val_main_cst_apply, val_main_v5_apply, val_main_v6_apply, val_main_v7_apply, val_main_cst_0_apply, val_main_v8_apply, val_main_v9_apply, val_main_v10_apply, val_main_cst_1_apply, val_main_v11_apply, val_main_v12_apply, val_main_cst_2_apply, val_main_v13_apply, val_main_v14_apply, val_main_v15_apply, val_main_v16_apply, val_main_cst_3_apply, val_main_v17_apply, val_main_v18_apply, val_main_cst_4_apply, val_main_v19_apply, val_main_v20_apply, val_main_cst_5_apply, val_main_v21_apply, val_main_v22_apply, val_main_v23_apply, val_main_v24_apply, val_main_v25_apply, val_main_v26_apply, val_main_v27_apply, val_main_v28_apply]
  blk_point [iblk, V, idx t]

/-- The array the kernel leaves in output window 3 is the reference's. -/
theorem final3 (c : Dev nD) : (dats m 0 c).arrAt 3 (cfgs 0).N
    = val_main_v28 (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; frame_out
  exact point3 m c t y

end Cert.ProjVsSIdeal.Value
-- ==== Proof.AttnMath.lean ====
module

public import Idealize.ShloMosaic.Lib.Pipeline.ValueKit
public import Idealize.ShloMosaic.Lib.Pointwise

@[expose] public section

noncomputable section

/-! Attention with a sink on one row of scores, over the extended reals: the kernel divides the weighted sum once, the
    reference divides every weight. Both agree where the scores and the sink are real numbers. -/

open Idealize.ShloMosaic

namespace Cert.AttnMath

/-- The greatest of a row's scores and its sink. -/
def top (s : Fin 192 → EReal) (sk : EReal) : EReal := max (Finset.fold max ⊥ s Finset.univ) sk

/-- The kernel's form: the weighted sum of the values over the sum of the weights and the sink's. -/
def attn (s : Fin 192 → EReal) (sk : EReal) (v : Fin 192 → EReal) : EReal :=
  Ideal.div (∑ k, Ideal.exp (s k - top s sk) * v k)
    (∑ k, Ideal.exp (s k - top s sk) + Ideal.exp (sk - top s sk))

/-- The row of scores with the sink behind it. -/
def withSink (s : Fin 192 → EReal) (sk : EReal) (k : Fin 193) : EReal := if h : k.val < 192 then s ⟨k.val, h⟩ else sk

/-- The reference's greatest score, taken over the row with the sink behind it. -/
def topAll (w : Fin 193 → EReal) : EReal := max ⊥ (Finset.univ.sup w)

theorem top_lt {s : Fin 192 → EReal} {sk : EReal} (hs : ∀ k, s k < ⊤) (hk : sk < ⊤) : top s sk < ⊤ :=
  max_lt ((Finset.sup_lt_iff (f := s) (s := Finset.univ) bot_lt_top).2 fun k _ => hs k) hk

theorem withSink_last (s : Fin 192 → EReal) (sk : EReal) : withSink s sk (Fin.last 192) = sk := dif_neg (by decide)

theorem withSink_cast (s : Fin 192 → EReal) (sk : EReal) (k : Fin 192) : withSink s sk k.castSucc = s k := dif_pos k.isLt

theorem topAll_eq (s : Fin 192 → EReal) (sk : EReal) : topAll (withSink s sk) = top s sk := by
  have e : Finset.fold max ⊥ s Finset.univ = Finset.univ.sup s := rfl
  unfold topAll top
  rw [e, max_eq_right bot_le]
  apply le_antisymm
  · refine Finset.sup_le fun k _ => ?_
    unfold withSink
    split
    · exact le_max_of_le_left (Finset.le_sup (f := s) (Finset.mem_univ _))
    · exact le_max_right _ _
  · refine max_le (Finset.sup_le fun k _ => ?_) ?_
    · rw [← withSink_cast s sk k]; exact Finset.le_sup (f := withSink s sk) (Finset.mem_univ _)
    · conv_lhs => rw [← withSink_last s sk]
      exact Finset.le_sup (f := withSink s sk) (Finset.mem_univ _)

/-- A sum of real numbers is a real number. -/
theorem sum_coe {n : ℕ} (f : Fin n → ℝ) : (∑ k, (f k : EReal)) = ((∑ k, f k : ℝ) : EReal) := by
  have : ∀ t : Finset (Fin n), (∑ k ∈ t, (f k : EReal)) = ((∑ k ∈ t, f k : ℝ) : EReal) := by
    intro t
    induction t using Finset.induction_on with
    | empty => simp
    | insert a t ha ih => rw [Finset.sum_insert ha, Finset.sum_insert ha, ih, EReal.coe_add]
  exact this _

/-- A real factor that is not negative goes into a sum. -/
theorem sum_mul_real {n : ℕ} (f : Fin n → EReal) {c : ℝ} (hc : 0 ≤ c) : (∑ k, f k) * (c : EReal) = ∑ k, f k * (c : EReal) := by
  have : ∀ t : Finset (Fin n), (∑ k ∈ t, f k) * (c : EReal) = ∑ k ∈ t, f k * (c : EReal) := by
    intro t
    induction t using Finset.induction_on with
    | empty => simp
    | insert a t ha ih =>
      rw [Finset.sum_insert ha, Finset.sum_insert ha, ← ih, mul_comm,
        EReal.left_distrib_of_nonneg_of_ne_top (by exact_mod_cast hc) (EReal.coe_ne_top c), mul_comm _ (f a), mul_comm _ (Finset.sum _ _)]
  exact this _

theorem exists_real {x : EReal} (h : x < ⊤) (h' : ⊥ < x) : ∃ r : ℝ, x = r :=
  ⟨x.toReal, (EReal.coe_toReal h.ne h'.ne').symm⟩

/-- The reference's form of the row: every weight divided, then the weighted sum. -/
def softmaxAttn (w : Fin 193 → EReal) (v : Fin 192 → EReal) : EReal :=
  ∑ k : Fin 192, v k * Ideal.div (Ideal.exp (w k.castSucc - topAll w)) (0 + ∑ j : Fin 193, Ideal.exp (w j - topAll w))

/-- The two forms agree on real scores and a real sink; the values may be anything. -/
theorem softmaxAttn_eq (s : Fin 192 → EReal) (sk : EReal) (v : Fin 192 → EReal) (hs : ∀ k, s k < ⊤) (hs' : ∀ k, ⊥ < s k)
    (hk : sk < ⊤) (hk' : ⊥ < sk) : softmaxAttn (withSink s sk) v = attn s sk v := by
  unfold softmaxAttn attn
  have hD : ∑ j : Fin 193, Ideal.exp (withSink s sk j - top s sk)
      = ∑ k, Ideal.exp (s k - top s sk) + Ideal.exp (sk - top s sk) := by
    rw [Fin.sum_univ_castSucc, withSink_last]
    simp only [withSink_cast]
  rw [topAll_eq, hD, zero_add]
  simp only [withSink_cast]
  obtain ⟨r, hr⟩ := exists_real (top_lt hs hk) (lt_of_lt_of_le hk' (le_max_right _ _))
  obtain ⟨b, rfl⟩ := exists_real hk hk'
  choose a ha using fun k => exists_real (hs k) (hs' k)
  rw [hr]
  simp only [ha, ← EReal.coe_sub, Ideal.exp_coe, sum_coe, ← EReal.coe_add]
  have hpos : 0 < ∑ k, Real.exp (a k - r) + Real.exp (b - r) :=
    add_pos_of_nonneg_of_pos (Finset.sum_nonneg fun k _ => (Real.exp_pos _).le) (Real.exp_pos _)
  simp only [Ideal.div_coe hpos.ne']
  rw [sum_mul_real _ (by positivity)]
  refine Finset.sum_congr rfl fun k _ => ?_
  rw [mul_comm (v k), mul_right_comm]

/-- The reference's score of key `j` of the window before row `r`, for the head that column `c` lies in. -/
def refScore (q : (⟨3, ![8, 2048, 1024]⟩ : Shape).Idx → EReal) (k : (⟨3, ![8, 2048, 128]⟩ : Shape).Idx → EReal)
    (bias : (⟨3, ![16, 64, 192]⟩ : Shape).Idx → EReal) (b : Fin 8) (r : Fin 2048) (c : Fin 1024) (j : Fin 192) : EReal :=
  if h : 128 ≤ 64 * (r.val / 64) + j.val then
    (∑ d : Fin 64, k (ix3 b ⟨64 * (r.val / 64) + j.val - 128, by omega⟩ ⟨64 * (c.val / 512) + d.val, by omega⟩)
        * q (ix3 b r ⟨64 * (c.val / 64) + d.val, by omega⟩)) * Ideal.ofBits .f32 0x3E000000#32
      + bias (ix3 ⟨c.val / 64, by omega⟩ ⟨r.val % 64, by omega⟩ j)
  else Ideal.ofBits .f32 0xF149F2CA#32

/-- The value of key `j` of that window, zero before the sequence. -/
def refVal (v : (⟨3, ![8, 2048, 128]⟩ : Shape).Idx → EReal) (b : Fin 8) (r : Fin 2048) (c : Fin 1024) (j : Fin 192) : EReal :=
  if h : 128 ≤ 64 * (r.val / 64) + j.val then
    v (ix3 b ⟨64 * (r.val / 64) + j.val - 128, by omega⟩ ⟨64 * (c.val / 512) + c.val % 64, by omega⟩)
  else 0

theorem real_of_abs {x : EReal} (h : max x (-x) < ⊤) : ∃ r : ℝ, x = r := by
  refine exists_real (lt_of_le_of_lt (le_max_left _ _) h) (bot_lt_iff_ne_bot.2 fun hb => ?_)
  subst hb
  simp at h

theorem abs_of_bit {x : EReal} (h : Ideal.cmp .olt (max x (-x)) (Ideal.ofBits .f32 0x7F800000#32) = 1#1) : max x (-x) < ⊤ := by
  have e : (Ideal.ofBits .f32 0x7F800000#32) = (⊤ : EReal) := by first | rfl | simp
  rw [e] at h
  by_contra hn
  simp [Ideal.cmp, hn] at h

end Cert.AttnMath
-- ==== Proof.PeerMath.lean ====
module

public import proofs.«01_k».proof.Proof.AttnMath

/-! One expert's weight and one expert's activation, in the kernel's form and in the reference's, over the extended reals. -/

@[expose] public section

noncomputable section

open Idealize.ShloMosaic

namespace Cert.PeerMath

/-- The kernel's weight of an expert: each head picks its second key's factor, then multiplies by its first key's. -/
def weight (r n e f : Fin 8 → EReal) : EReal := ∑ h, (if r h < n h then e h else 0) * f h

/-- The reference multiplies the two factors first. -/
theorem weight_eq (r n e f : Fin 8 → EReal) : weight r n e f = ∑ h, if r h < n h then f h * e h else 0 := by
  refine Finset.sum_congr rfl fun h _ => ?_
  split
  · exact mul_comm _ _
  · exact zero_mul _

/-- The kernel's GELU: the half, the constant and the constant's product with the cube's coefficient are given. -/
def gelu (p c q x : EReal) : EReal := p * x + p * x * Ideal.tanh (x * (c + q * (x * x)))

/-- The half. -/
theorem half : Ideal.ofBits .f32 0x3F000000#32 = ((1 / 2 : ℝ) : EReal) := by
  simp [Ideal.ofBits, Ideal.ieee, -EReal.coe_mul]; norm_num

/-- The square root of 2/π, as it is rounded. -/
theorem root : Ideal.ofBits .f32 0x3F4C422A#32 = ((6693141 / 8388608 : ℝ) : EReal) := by
  simp [Ideal.ofBits, Ideal.ieee, -EReal.coe_mul]; norm_num

/-- The cube's coefficient, as it is rounded. -/
theorem cubic : Ideal.ofBits .f32 0x3D372713#32 = ((12003091 / 268435456 : ℝ) : EReal) := by
  simp [Ideal.ofBits, Ideal.ieee, -EReal.coe_mul]; norm_num

/-- On real numbers the two forms of GELU are one function. -/
theorem gelu_eq (p c a q x : ℝ) (hq : q = c * a) :
    gelu p c q x = (x : EReal) * (p * (1 + Ideal.tanh ((c : EReal) * ((x : EReal) + a * ((x : EReal) * x * x))))) := by
  have e : x * (c + q * (x * x)) = c * (x + a * (x * x * x)) := by rw [hq]; ring
  unfold gelu
  simp only [← EReal.coe_mul, ← EReal.coe_add, Ideal.tanh_coe, ← EReal.coe_one, e]
  exact congrArg _ (by ring)

end Cert.PeerMath
-- ==== Proof.PeerChunk.lean ====
module

public import proofs.«01_k».proof.Proof.Gen.PeerExpertsIdeal.Frame
public import Idealize.ShloMosaic.Lib.Pipeline.ValueKit
public import Idealize.ShloMosaic.Lib.Pointwise

/-! One chunk of the experts' kernel: 256 experts' weights, activations and values, added to the running sum; and each grid point's four chunks. -/

@[expose] public section

set_option maxRecDepth 16384

noncomputable section

open Idealize.ShloMosaic Idealize.ShloMosaic.TcCoe Idealize.SL.Sem

namespace Cert.PeerExpertsIdeal.Value

open Cert.PeerExpertsIdeal Cert.PeerExpertsIdeal.Gen

theorem inbR (h : Fin 8) (a) : (![128 * h.val, 0] : Fin 2 → Nat) a + S128x512.size a ≤ S1024x512.size a := by
  have := h.isLt
  match a with
  | ⟨0, _⟩ => show 128 * h.val + 128 ≤ 1024; omega
  | ⟨1, _⟩ => show 0 + 512 ≤ 512; omega

theorem inbN (h i : Fin 8) (a) : (![h.val, i.val, 0] : Fin 3 → Nat) a + S1x1x512.size a ≤ S8x8x512.size a := by
  have := h.isLt
  have := i.isLt
  match a with
  | ⟨0, _⟩ => show h.val + 1 ≤ 8; omega
  | ⟨1, _⟩ => show i.val + 1 ≤ 8; omega
  | ⟨2, _⟩ => show 0 + 512 ≤ 512; omega

theorem inbU (k : Fin 4) (a) : (![256 * k.val, 0] : Fin 2 → Nat) a + S256x2048.size a ≤ S1024x2048.size a := by
  have := k.isLt
  match a with
  | ⟨0, _⟩ => show 256 * k.val + 256 ≤ 1024; omega
  | ⟨1, _⟩ => show 0 + 2048 ≤ 2048; omega

theorem inbV (k : Fin 4) (a) : (![0, 256 * k.val] : Fin 2 → Nat) a + S2048x256.size a ≤ S2048x1024.size a := by
  have := k.isLt
  match a with
  | ⟨0, _⟩ => show 0 + 2048 ≤ 2048; omega
  | ⟨1, _⟩ => show 256 * k.val + 256 ≤ 1024; omega

/-- One head's row of counts (or of coefficients) for one first key, over the 128 second keys. -/
def rowOf (n : Vec Ideal S8x8x512 .f32) (h i : Fin 8) : FVec Ideal S128x512 .bf16 :=
  broadcastTo S128x512 (shapeCast S1x512 (truncf .bf16 (shapeCast S1x512
    (View.ld n (Rect.unit ![h.val, i.val, 0] S1x1x512.size (inbN h i))) shapeCasts_S1x1x512_S1x512) bitsLt_bf16_f32)
    shapeCasts_S1x512_S1x512) broadcasts_S1x512_S128x512

/-- One head's share of the weights of the 128 experts with one first key. -/
def share (r e : Vec Ideal S1024x512 .bf16) (n f : Vec Ideal S8x8x512 .f32) (i h : Fin 8) : FVec Ideal S128x512 .bf16 :=
  mulf (select (cmpf .olt (View.ld r (Rect.unit ![128 * h.val, 0] S128x512.size (inbR h)) : FVec Ideal S128x512 .bf16) (rowOf n h i))
    (View.ld e (Rect.unit ![128 * h.val, 0] S128x512.size (inbR h)))
    (broadcast S128x512 (Scalar.ofBits (F := Ideal) .bf16 0x0000#16))) (rowOf f h i)

/-- The weights of the 128 experts with one first key: the heads' shares added up. -/
def weights (r e : Vec Ideal S1024x512 .bf16) (n f : Vec Ideal S8x8x512 .f32) (i : Fin 8) : FVec Ideal S128x512 .bf16 :=
  addf (addf (addf (addf (addf (addf (addf (share r e n f i 0) (share r e n f i 1)) (share r e n f i 2)) (share r e n f i 3))
    (share r e n f i 4)) (share r e n f i 5)) (share r e n f i 6)) (share r e n f i 7)

/-- The kernel's form of GELU. -/
def act (x : FVec Ideal S128x512 .f32) : FVec Ideal S128x512 .f32 :=
  addf (mulf (broadcast S128x512 (Scalar.ofBits (F := Ideal) .f32 0x3F000000#32)) x)
    (mulf (mulf (broadcast S128x512 (Scalar.ofBits (F := Ideal) .f32 0x3F000000#32)) x)
      (tanh (mulf x (addf (broadcast S128x512 (Scalar.ofBits (F := Ideal) .f32 0x3F4C422A#32))
        (mulf (broadcast S128x512 (Named.named (F := Ideal) κ "c_alpha" 0x3D122279#32)) (mulf x x))))))

/-- The weighted activations of the 128 experts with one first key. -/
def hid (w : FVec Ideal S128x512 .bf16) (x : FVec Ideal S128x512 .f32) : FVec Ideal S128x512 .bf16 :=
  mulf w (truncf .bf16 (act x) bitsLt_bf16_f32)

/-- The products of one chunk's 256 experts with the tokens. -/
def ups (u : Vec Ideal S1024x2048 .bf16) (x : Vec Ideal S512x2048 .bf16) (k : Fin 4) : FVec Ideal S256x512 .f32 :=
  k0_pay4 (View.ld u (Rect.unit ![256 * k.val, 0] S256x2048.size (inbU k))) x

/-- Two blocks of 128 experts, one above the other. -/
def cat (a b : FVec Ideal S128x512 .bf16) : FVec Ideal S256x512 .bf16 :=
  concatenate S256x512 0 [⟨S128x512, a⟩, ⟨S128x512, b⟩] concatenates_S128x512_S128x512_S256x512_d0

theorem cat_eq (a b : FVec Ideal S128x512 .bf16) (h) : concatenate S256x512 0 [⟨S128x512, a⟩, ⟨S128x512, b⟩] h = cat a b := rfl

/-- One chunk's step: its experts' values, weighted, added to what the sum was. -/
def chunk (r e : Vec Ideal S1024x512 .bf16) (n f : Vec Ideal S8x8x512 .f32) (u : Vec Ideal S1024x2048 .bf16)
    (x : Vec Ideal S512x2048 .bf16) (v : Vec Ideal S2048x1024 .bf16) (k : Fin 4) (acc : Vec Ideal S2048x512 .f32) :
    Vec Ideal S2048x512 .f32 :=
  shapeCast S2048x512 (addf (acc : FVec Ideal S2048x512 .f32) (matmul dot_S2048x256_S256x512_S2048x512_1_0_0_1_n_n none
    (shapeCast S2048x256 (View.ld v (Rect.unit ![0, 256 * k.val] S2048x256.size (inbV k))) shapeCasts_S2048x256_S2048x256 : FVec Ideal S2048x256 .bf16)
    (cat (hid (weights r e n f ⟨2 * k.val, by omega⟩) (extractStridedSlice S128x512 ![0, 0] (ups u x k) slices_S256x512_o0_0_S128x512))
      (hid (weights r e n f ⟨2 * k.val + 1, by omega⟩) (extractStridedSlice S128x512 ![128, 0] (ups u x k) slices_S256x512_o128_0_S128x512)))
    (constant S2048x512 .f32 0x00000000#32))) shapeCasts_S2048x512_S2048x512

/-- One grid point's step: its four chunks. -/
def step (r e : Vec Ideal S1024x512 .bf16) (n f : Vec Ideal S8x8x512 .f32) (u : Vec Ideal S1024x2048 .bf16)
    (x : Vec Ideal S512x2048 .bf16) (v : Vec Ideal S2048x1024 .bf16) (acc : Vec Ideal S2048x512 .f32) : Vec Ideal S2048x512 .f32 :=
  chunk r e n f u x v 3 (chunk r e n f u x v 2 (chunk r e n f u x v 1 (chunk r e n f u x v 0 acc)))

variable (m : (ℓ : Loc nD τ sig) → Buf (Elt Ideal) ℓ)

/-- The step of a grid point on the blocks that the point has. -/
def stepAt (c : Dev nD) (t : Fin cfg0.N) (acc : Vec Ideal S2048x512 .f32) : Vec Ideal S2048x512 .f32 :=
  step (iblk m c 3 t) (iblk m c 4 t) (iblk m c 5 t) (iblk m c 6 t) (iblk m c 1 t) (iblk m c 0 t) (iblk m c 2 t) acc

theorem hz2 : (![0, 0] : Fin 2 → Nat) = fun _ => 0 := funext fun a => by fin_cases a <;> rfl

/-- What the accumulator's buffer is read as after it was given its contents. -/
theorem read_acc (h : scM0_0.IsWhole) (y : Vec Ideal S2048x512 .f32) :
    View.read (Elt Ideal) (View.whole cc0_scratch0) (h.unread y) = y := h.read_unread y

set_option maxHeartbeats 4000000

theorem outs_A (c : Dev nD) (t : Fin cfg0.N) (h0 : t.val % 16 = 0) (h1 : ¬t.val % 16 = 15) :
    (outsAt0 m c t.val t.isLt).2 = stepAt m c t (k0_pay3 (F := Ideal)) := by
  rw [outsAt0_A m c t h0 h1]
  frame_out
  simp only [cat_eq, (hs0_0 t).read_unread, (hs0_1 t).read_unread, (hs0_2 t).read_unread, (hs0_3 t).read_unread, (hs0_4 t).read_unread, (hs0_5 t).read_unread, (hs0_6 t).read_unread, read_acc, View.ld_unit_zero (S := S512x2048) hz2]
  rfl

theorem outs_B (c : Dev nD) (t : Fin cfg0.N) (h0 : ¬t.val % 16 = 0) (h1 : ¬t.val % 16 = 15) :
    (outsAt0 m c t.val t.isLt).2
      = stepAt m c t ((outsAt0 m c (t.val - 1) (Nat.lt_of_le_of_lt (Nat.sub_le _ _) t.isLt)).2) := by
  rw [outsAt0_B m c t h0 h1]
  frame_out
  simp only [cat_eq, (hs0_0 t).read_unread, (hs0_1 t).read_unread, (hs0_2 t).read_unread, (hs0_3 t).read_unread, (hs0_4 t).read_unread, (hs0_5 t).read_unread, (hs0_6 t).read_unread, read_acc, View.ld_unit_zero (S := S512x2048) hz2]
  rfl

theorem outs_C (c : Dev nD) (t : Fin cfg0.N) (h0 : ¬t.val % 16 = 0) (h1 : t.val % 16 = 15) :
    (outsAt0 m c t.val t.isLt).2
      = stepAt m c t ((outsAt0 m c (t.val - 1) (Nat.lt_of_le_of_lt (Nat.sub_le _ _) t.isLt)).2) := by
  rw [outsAt0_C m c t h0 h1]
  frame_out
  simp only [cat_eq, (hs0_0 t).read_unread, (hs0_1 t).read_unread, (hs0_2 t).read_unread, (hs0_3 t).read_unread, (hs0_4 t).read_unread, (hs0_5 t).read_unread, (hs0_6 t).read_unread, read_acc, View.ld_unit_zero (S := S512x2048) hz2]
  rfl

/-- A token tile's last point also writes its block of the result: the residual, the sum, and the norm. -/
theorem outs_last (c : Dev nD) (t : Fin cfg0.N) (h0 : ¬t.val % 16 = 0) (h1 : t.val % 16 = 15) :
    (outsAt0 m c t.val t.isLt).1
      = k0_pay2 (iblk m c 7 t) (stepAt m c t ((outsAt0 m c (t.val - 1) (Nat.lt_of_le_of_lt (Nat.sub_le _ _) t.isLt)).2))
          (iblk m c 8 t) := by
  rw [outsAt0_C m c t h0 h1]
  frame_out
  simp only [cat_eq, (hs0_0 t).read_unread, (hs0_1 t).read_unread, (hs0_2 t).read_unread, (hs0_3 t).read_unread, (hs0_4 t).read_unread, (hs0_5 t).read_unread, (hs0_6 t).read_unread, read_acc, View.ld_unit_zero (S := S512x2048) hz2]
  rfl

end Cert.PeerExpertsIdeal.Value
-- ==== Proof.PeerStep.lean ====
module

public import proofs.«01_k».proof.Proof.PeerMath
public import proofs.«01_k».proof.Proof.PeerChunk

/-! The experts' step, read entry by entry. -/

@[expose] public section

set_option maxRecDepth 16384

noncomputable section

open Idealize.ShloMosaic Idealize.ShloMosaic.TcCoe Idealize.SL.Sem

namespace Cert.PeerExpertsIdeal.Value

open Cert.PeerExpertsIdeal Cert.PeerExpertsIdeal.Gen

section
open Cert.PeerMath

variable (r e : Vec Ideal S1024x512 .bf16) (n f : Vec Ideal S8x8x512 .f32) (u : Vec Ideal S1024x2048 .bf16)
  (x : Vec Ideal S512x2048 .bf16) (v : Vec Ideal S2048x1024 .bf16)

theorem share_apply (i h : Fin 8) (j : Fin 128) (t : Fin 512) : share r e n f i h (ix2 j t)
    = (if r (ix2 ⟨128 * h.val + j.val, by omega⟩ t) < n (ix3 h i t) then (e (ix2 ⟨128 * h.val + j.val, by omega⟩ t) : EReal) else 0) * f (ix3 h i t) := by
  pointwise [share, rowOf]

/-- The weight of expert `E` of the block for its token `t`. -/
def wtB (E : Fin 1024) (t : Fin 512) : EReal :=
  weight (fun h => r (ix2 ⟨128 * h.val + E.val % 128, by omega⟩ t)) (fun h => n (ix3 h ⟨E.val / 128, by omega⟩ t))
    (fun h => e (ix2 ⟨128 * h.val + E.val % 128, by omega⟩ t)) (fun h => f (ix3 h ⟨E.val / 128, by omega⟩ t))

theorem weights_apply (i : Fin 8) (j : Fin 128) (t : Fin 512) (E : Fin 1024) (hE : E.val = 128 * i.val + j.val) :
    weights r e n f i (ix2 j t) = wtB r e n f E t := by
  have hi : (⟨E.val / 128, by omega⟩ : Fin 8) = i := Fin.ext (by show E.val / 128 = i.val; omega)
  have hj : E.val % 128 = j.val := by omega
  have hs : ∀ h : Fin 8, share r e n f i h (ix2 j t) = (if r (ix2 ⟨128 * h.val + E.val % 128, by omega⟩ t) < n (ix3 h ⟨E.val / 128, by omega⟩ t)
      then (e (ix2 ⟨128 * h.val + E.val % 128, by omega⟩ t) : EReal) else 0) * f (ix3 h ⟨E.val / 128, by omega⟩ t) := by
    intro h
    rw [share_apply, hi]
    simp only [hj]
  unfold wtB weight
  refine Eq.trans ?_ (Finset.sum_congr rfl fun h _ => hs h)
  rw [Fin.sum_univ_eight]
  rfl

/-- The product of expert `E` of the block with its token `t`. -/
def upB (E : Fin 1024) (t : Fin 512) : EReal := ∑ k : Fin 2048, u (ix2 E k) * x (ix2 t k)

theorem ups_apply (k : Fin 4) (j : Fin 256) (t : Fin 512) (E : Fin 1024) (hE : E.val = 256 * k.val + j.val) :
    ups u x k (ix2 j t) = upB u x E t := by
  have hb : 256 * k.val + j.val < 1024 := by omega
  obtain rfl : E = ⟨256 * k.val + j.val, hb⟩ := Fin.ext hE
  unfold upB
  pointwise [ups, k0_pay4]

/-- The weighted activation of expert `E` of the block for its token `t`. -/
def hidB (E : Fin 1024) (t : Fin 512) : EReal :=
  wtB r e n f E t * gelu (Ideal.ofBits .f32 0x3F000000#32) (Ideal.ofBits .f32 0x3F4C422A#32)
    (Named.named (F := Ideal) κ "c_alpha" (φ := .f32) 0x3D122279#32) (upB u x E t)

/-- What 128 experts with one first key add to entry `(d, t)` of the sum. -/
def part (d : Fin 2048) (t : Fin 512) (i : Fin 8) : EReal :=
  ∑ j : Fin 128, v (ix2 d ⟨i.val * 128 + j.val, by omega⟩) * hidB r e n f u x ⟨i.val * 128 + j.val, by omega⟩ t

theorem hid_apply (w : FVec Ideal S128x512 .bf16) (y : FVec Ideal S128x512 .f32) (i) : hid w y i
    = w i * gelu (Ideal.ofBits .f32 0x3F000000#32) (Ideal.ofBits .f32 0x3F4C422A#32) (Named.named (F := Ideal) κ "c_alpha" (φ := .f32) 0x3D122279#32) (y i) := by
  unfold gelu
  pointwise [hid, act]

theorem low_apply (y : FVec Ideal S256x512 .f32) (j : Fin 128) (t : Fin 512) :
    extractStridedSlice S128x512 ![0, 0] y slices_S256x512_o0_0_S128x512 (ix2 j t) = y (ix2 ⟨j.val, by omega⟩ t) := by
  pointwise []

theorem high_apply (y : FVec Ideal S256x512 .f32) (j : Fin 128) (t : Fin 512) :
    extractStridedSlice S128x512 ![128, 0] y slices_S256x512_o128_0_S128x512 (ix2 j t) = y (ix2 ⟨128 + j.val, by omega⟩ t) := by
  pointwise []

theorem hid_low (k : Fin 4) (j : Fin 128) (t : Fin 512) :
    hid (weights r e n f ⟨2 * k.val, by omega⟩) (extractStridedSlice S128x512 ![0, 0] (ups u x k) slices_S256x512_o0_0_S128x512) (ix2 j t)
      = hidB r e n f u x ⟨2 * k.val * 128 + j.val, by omega⟩ t := by
  rw [hid_apply, low_apply, weights_apply r e n f ⟨2 * k.val, by omega⟩ j t ⟨2 * k.val * 128 + j.val, by omega⟩ (by show 2 * k.val * 128 + j.val = 128 * (2 * k.val) + j.val; omega),
    ups_apply u x k ⟨j.val, by omega⟩ t ⟨2 * k.val * 128 + j.val, by omega⟩ (by show 2 * k.val * 128 + j.val = 256 * k.val + j.val; omega)]
  unfold hidB
  exact rfl

theorem hid_high (k : Fin 4) (j : Fin 128) (t : Fin 512) :
    hid (weights r e n f ⟨2 * k.val + 1, by omega⟩) (extractStridedSlice S128x512 ![128, 0] (ups u x k) slices_S256x512_o128_0_S128x512) (ix2 j t)
      = hidB r e n f u x ⟨(2 * k.val + 1) * 128 + j.val, by omega⟩ t := by
  rw [hid_apply, high_apply, weights_apply r e n f ⟨2 * k.val + 1, by omega⟩ j t ⟨(2 * k.val + 1) * 128 + j.val, by omega⟩ (by show (2 * k.val + 1) * 128 + j.val = 128 * (2 * k.val + 1) + j.val; omega),
    ups_apply u x k ⟨128 + j.val, by omega⟩ t ⟨(2 * k.val + 1) * 128 + j.val, by omega⟩ (by show (2 * k.val + 1) * 128 + j.val = 256 * k.val + (128 + j.val); omega)]
  unfold hidB
  exact rfl

/-- A chunk's product with the values, added to the sum, as the sums over its two blocks of experts. -/
theorem dot_apply (a b : FVec Ideal S128x512 .bf16) (k : Fin 4) (acc : Vec Ideal S2048x512 .f32) (d : Fin 2048) (t : Fin 512) :
    shapeCast S2048x512 (addf (acc : FVec Ideal S2048x512 .f32) (matmul dot_S2048x256_S256x512_S2048x512_1_0_0_1_n_n none
      (shapeCast S2048x256 (View.ld v (Rect.unit ![0, 256 * k.val] S2048x256.size (inbV k))) shapeCasts_S2048x256_S2048x256 : FVec Ideal S2048x256 .bf16)
      (cat a b) (constant S2048x512 .f32 0x00000000#32))) shapeCasts_S2048x512_S2048x512 (ix2 d t)
    = acc (ix2 d t) + (∑ j : Fin 128, v (ix2 d ⟨256 * k.val + j.val, by omega⟩) * a (ix2 j t)
        + ∑ j : Fin 128, v (ix2 d ⟨256 * k.val + (128 + j.val), by omega⟩) * b (ix2 j t)) := by
  pointwise [cat]

/-- A chunk adds the parts of its two times 128 experts. -/
theorem chunk_apply (k : Fin 4) (acc : Vec Ideal S2048x512 .f32) (d : Fin 2048) (t : Fin 512) : chunk r e n f u x v k acc (ix2 d t)
    = acc (ix2 d t) + (part r e n f u x v d t ⟨2 * k.val, by omega⟩ + part r e n f u x v d t ⟨2 * k.val + 1, by omega⟩) := by
  refine (dot_apply v _ _ k acc d t).trans (congrArg (fun z : EReal => acc (ix2 d t) + z) (congrArg₂ (fun y z : EReal => y + z) ?_ ?_))
  · refine Finset.sum_congr rfl fun j _ => ?_
    rw [hid_low]
    refine congrArg (fun z : Fin 1024 => (v (ix2 d z) : EReal) * _) (Fin.ext ?_)
    show 256 * k.val + j.val = 2 * k.val * 128 + j.val
    omega
  · refine Finset.sum_congr rfl fun j _ => ?_
    rw [hid_high]
    refine congrArg (fun z : Fin 1024 => (v (ix2 d z) : EReal) * _) (Fin.ext ?_)
    show 256 * k.val + (128 + j.val) = (2 * k.val + 1) * 128 + j.val
    omega

/-- A grid point's step adds the parts of its 1024 experts. -/
theorem step_apply (acc : Vec Ideal S2048x512 .f32) (d : Fin 2048) (t : Fin 512) :
    step r e n f u x v acc (ix2 d t) = acc (ix2 d t) + ∑ E : Fin 1024, v (ix2 d E) * hidB r e n f u x E t := by
  have hp : ∑ E : Fin 1024, v (ix2 d E) * hidB r e n f u x E t = ∑ i : Fin 8, part r e n f u x v d t i :=
    (Fin.sum_mul_add_fin 8 128 fun E : Fin 1024 => (v (ix2 d E) : EReal) * hidB r e n f u x E t).symm
  unfold step
  rw [hp, Fin.sum_univ_eight, chunk_apply, chunk_apply, chunk_apply, chunk_apply]
  generalize part r e n f u x v d t = p
  simp only [add_assoc]
  rfl

end

end Cert.PeerExpertsIdeal.Value
-- ==== Proof.PeerRef.lean ====
module

public import proofs.«01_k».proof.Proof.PeerMath
public import proofs.«01_k».proof.Proof.Gen.PeerExpertsRefIdeal.Read
public import Idealize.ShloMosaic.Lib.Pointwise

/-! The experts' reference, read entry by entry. -/

@[expose] public section

set_option maxRecDepth 16384

noncomputable section

open Idealize.ShloMosaic Idealize.ShloMosaic.TcCoe Idealize.SL.Sem

namespace Cert.PeerExpertsRefIdeal.Read

open Cert.PeerExpertsRefIdeal Cert.PeerMath

variable (x0 : FVec Ideal S16384x2048 .bf16) (x1 x2 : FVec Ideal S16384x2048 .f32) (x3 x4 : FVec Ideal S1024x16384 .bf16)
  (x5 x6 : FVec Ideal S8x128x16384 .f32)

/-- The product of expert `E` with token `T`. -/
def up (E T : Fin 16384) : EReal := ∑ k : Fin 2048, x1 (ix2 E k) * x0 (ix2 T k)

/-- The weight of expert `E` for token `T`. -/
def wt (E T : Fin 16384) : EReal :=
  weight (fun h => x3 (ix2 ⟨128 * h.val + E.val % 128, by omega⟩ T)) (fun h => x5 (ix3 h ⟨E.val / 128, by omega⟩ T))
    (fun h => x4 (ix2 ⟨128 * h.val + E.val % 128, by omega⟩ T)) (fun h => x6 (ix3 h ⟨E.val / 128, by omega⟩ T))

theorem key2 (E T : Fin 16384) (h : Fin 8) : idx_main_v2 (idx_main_v6 (idx_main_v14 (idx_main_v15 (ix2 E T)) h)) = ix2 ⟨128 * h.val + E.val % 128, by omega⟩ T := by
  have hE := E.isLt
  have hT := T.isLt
  have hh := h.isLt
  funext a
  refine Fin.ext ?_
  match a with
  | ⟨0, _⟩ => show (((h.val * 1 + 0) * 128 + (E.val * 16384 + T.val) / 16384 % 128) * 16384 + (E.val * 16384 + T.val) % 16384) / 16384 = 128 * h.val + E.val % 128; omega
  | ⟨1, _⟩ => show (((h.val * 1 + 0) * 128 + (E.val * 16384 + T.val) / 16384 % 128) * 16384 + (E.val * 16384 + T.val) % 16384) % 16384 = T.val; omega

theorem key1 (E T : Fin 16384) (h : Fin 8) : idx_main_v5 (idx_main_v7 (idx_main_v14 (idx_main_v15 (ix2 E T)) h)) = ix3 h ⟨E.val / 128, by omega⟩ T := by
  have hE := E.isLt
  have hT := T.isLt
  funext a
  refine Fin.ext ?_
  match a with
  | ⟨0, _⟩ => rfl
  | ⟨1, _⟩ => show (E.val * 16384 + T.val) / 2097152 = E.val / 128; omega
  | ⟨2, _⟩ => show (E.val * 16384 + T.val) % 16384 = T.val; omega

theorem wt_at (E T : Fin 16384) : (val_main_v15 (F := Ideal) x3 x4 x5 x6 : FVec Ideal S16384x16384 .f32) (ix2 E T) = wt x3 x4 x5 x6 E T := by
  refine Eq.trans ?_ (weight_eq _ _ _ _).symm
  pointwise [val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_cst_apply, val_main_cst_0_apply, val_main_call0_v0_apply, val_main_call0_v1_apply]
  refine Finset.sum_congr rfl fun h _ => ?_
  have k2 := key2 E T h
  have k1 := key1 E T h
  have k2' : idx_main_v4 (idx_main_v11 (idx_main_v14 (idx_main_v15 (ix2 E T)) h)) = _ := k2
  have k1' : idx_main_v9 (idx_main_v10 (idx_main_v14 (idx_main_v15 (ix2 E T)) h)) = _ := k1
  rw [k2, k1, k2', k1']

theorem up_at (E T : Fin 16384) : (val_main_v16 (F := Ideal) x0 x1 : FVec Ideal S16384x16384 .f32) (ix2 E T) = up x0 x1 E T := by
  have hl : ∀ k, lidx_main_v16 (ix2 E T) k = ix2 E k := fun k => funext fun a => by fin_cases a <;> rfl
  have hr : ∀ k, ridx_main_v16 (ix2 E T) k = ix2 T k := fun k => funext fun a => by fin_cases a <;> rfl
  unfold up
  pointwise [val_main_v16_apply, val_main_v0_apply]
  simp only [hl, hr]

/-- The activation of a real product is the kernel's GELU of it. -/
theorem act_at (E T : Fin 16384) (x : ℝ) (hx : up x0 x1 E T = x) (q : ℝ) (hq : q = 6693141 / 8388608 * (12003091 / 268435456)) :
    (val_main_v29 (F := Ideal) x0 x1 : FVec Ideal S16384x16384 .f32) (ix2 E T)
      = gelu ((1 / 2 : ℝ) : EReal) ((6693141 / 8388608 : ℝ) : EReal) q (up x0 x1 E T) := by
  rw [hx, gelu_eq _ _ _ _ _ hq]
  pointwise [val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_cst_1_apply, val_main_cst_2_apply, val_main_cst_3_apply, val_main_cst_4_apply]
  rw [up_at, hx, half, root, cubic]

/-- What expert `E` adds to entry `(T, d)` of the result's sum. -/
def gain (q : ℝ) (T : Fin 16384) (d : Fin 2048) (E : Fin 16384) : EReal :=
  x2 (ix2 E d) * (wt x3 x4 x5 x6 E T * gelu ((1 / 2 : ℝ) : EReal) ((6693141 / 8388608 : ℝ) : EReal) q (up x0 x1 E T))

/-- The experts' sum for token `T`, in the kernel's form. -/
theorem out_at (hx : ∀ E T, ∃ x : ℝ, up x0 x1 E T = x) (q : ℝ) (hq : q = 6693141 / 8388608 * (12003091 / 268435456)) (T : Fin 16384) (d : Fin 2048) :
    (val_main_v31 (F := Ideal) x0 x1 x2 x3 x4 x5 x6 : FVec Ideal S16384x2048 .f32) (ix2 T d)
      = ∑ E : Fin 16384, gain x0 x1 x2 x3 x4 x5 x6 q T d E := by
  refine (val_main_v31_apply x0 x1 x2 x3 x4 x5 x6 _).trans (Finset.sum_congr rfl fun E _ => ?_)
  obtain ⟨x, hx⟩ := hx E T
  have hl : lidx_main_v31 (ix2 T d) E = ix2 E T := funext fun a => by fin_cases a <;> rfl
  have hr : ridx_main_v31 (ix2 T d) E = ix2 E d := funext fun a => by fin_cases a <;> rfl
  rw [hl, hr, val_main_v30_apply]
  exact (mul_comm _ _).trans (congrArg₂ (fun a b : EReal => a * b) rfl
    (congrArg₂ (fun a b : EReal => a * b) (wt_at x3 x4 x5 x6 E T) (act_at x0 x1 E T x hx q hq)))

end Cert.PeerExpertsRefIdeal.Read
-- ==== Proof.PeerExpertsVal.lean ====
module

public import proofs.«01_k».proof.Proof.PeerStep
public import proofs.«01_k».proof.Proof.PeerRef
public import proofs.«01_k».proof.Defs
public import Idealize.ShloMosaic.Lib.ReduceAll
public import proofs.«01_k».proof.Proof.Gen.PeerExpertsIdeal.Value

/-! The experts' kernel, from its blocks to its whole result. -/

@[expose] public section

set_option maxRecDepth 16384

noncomputable section

open Idealize.ShloMosaic Idealize.ShloMosaic.TcCoe Idealize.SL.Sem
open Idealize.ShloMosaic.Pipeline (Dat)

namespace Cert.Pre_finite_experts

variable [Facts]
open Facts Cert.AttnMath

/-- The precondition says that every token's and every expert's entry is a real number. -/
theorem real_of_fn (x : FVec Ideal S16384x2048 .bf16) (u v : FVec Ideal S16384x2048 .f32) (r e : FVec Ideal S1024x16384 .bf16)
    (n f : FVec Ideal S8x128x16384 .f32) (y : FVec Ideal S16384x2048 .f32) (g : FVec Ideal S2048 .f32)
    (h : fn (F := Ideal) x u v r e n f y g = fun _ => 1#1) : (∀ i, ∃ a : ℝ, x i = a) ∧ (∀ i, ∃ a : ℝ, u i = a) := by
  have h0 := congrFun h (Shape.Idx.first h_S_)
  unfold fn at h0
  obtain ⟨hx, hu⟩ := IntOp.andi_eq_one.1 h0
  haveI : Subsingleton S_.Idx := ⟨fun a b => funext fun i => i.elim0⟩
  exact ⟨fun i => real_of_abs (abs_of_bit (Host.reduce_andi_all _ _ _ _ _ hx i)), fun i => real_of_abs (abs_of_bit (Host.reduce_andi_all _ _ _ _ _ hu i))⟩

end Cert.Pre_finite_experts

namespace Cert.PeerExpertsIdeal.Value

open Cert.PeerExpertsIdeal Cert.PeerExpertsIdeal.Gen Cert.PeerExpertsRefIdeal.Read Cert.PeerMath

variable (m : (ℓ : Loc nD τ sig) → Buf (Elt Ideal) ℓ) (c : Dev nD)

/-- Where each window's block lies at a grid point. -/
theorem idx : ∀ t : Fin cfg0.N, win0_0.index t = ![t.val / 16, 0]
    ∧ win0_1.index t = ![t.val % 16, 0]
    ∧ win0_2.index t = ![0, t.val % 16]
    ∧ win0_3.index t = ![0, t.val / 16]
    ∧ win0_4.index t = ![0, t.val / 16]
    ∧ win0_5.index t = ![0, t.val % 16, t.val / 16]
    ∧ win0_6.index t = ![0, t.val % 16, t.val / 16]
    ∧ win0_7.index t = ![t.val / 16, 0]
    ∧ win0_8.index t = ![0, 0]
    ∧ win0_9.index t = ![t.val / 16, 0] :=
  (by decide +kernel : ∀ t : Fin grid0.N, _)

/-- The token that row `k` of a point's block is. -/
def tok (t : Fin cfg0.N) (k : Fin 512) : Fin 16384 := ⟨512 * (t.val / 16) + k.val, by have h : t.val < 512 := t.isLt; omega⟩
/-- The expert that row `E` of a point's block is. -/
def ex (t : Fin cfg0.N) (E : Fin 1024) : Fin 16384 := ⟨t.val % 16 * 1024 + E.val, by omega⟩
/-- The first key that row `i` of a point's block is. -/
def key (t : Fin cfg0.N) (i : Fin 8) : Fin 128 := ⟨8 * (t.val % 16) + i.val, by omega⟩

theorem blk_x (t : Fin cfg0.N) (k : Fin 512) (q : Fin 2048) : (iblk m c 0 t : Vec Ideal S512x2048 .bf16) (ix2 k q)
    = (m ((c.tc : Thread nD τ).loc main_arg0) : FVec Ideal S16384x2048 .bf16) (ix2 (tok t k) q) := by
  blk_point [iblk, V, idx t, tok]

theorem blk_u (t : Fin cfg0.N) (E : Fin 1024) (q : Fin 2048) : (iblk m c 1 t : Vec Ideal S1024x2048 .bf16) (ix2 E q)
    = (m ((c.tc : Thread nD τ).loc main_arg1) : FVec Ideal S16384x2048 .f32) (ix2 (ex t E) q) := by
  blk_point [iblk, V, idx t, ex]

theorem blk_v (t : Fin cfg0.N) (d : Fin 2048) (E : Fin 1024) : (iblk m c 2 t : Vec Ideal S2048x1024 .bf16) (ix2 d E)
    = (m ((c.tc : Thread nD τ).loc main_arg2) : FVec Ideal S16384x2048 .f32) (ix2 (ex t E) d) := by
  blk_point [iblk, V, idx t, ex]

theorem blk_r (t : Fin cfg0.N) (j : Fin 1024) (k : Fin 512) : (iblk m c 3 t : Vec Ideal S1024x512 .bf16) (ix2 j k)
    = (m ((c.tc : Thread nD τ).loc main_arg3) : FVec Ideal S1024x16384 .bf16) (ix2 j (tok t k)) := by
  blk_point [iblk, V, idx t, tok]

theorem blk_e (t : Fin cfg0.N) (j : Fin 1024) (k : Fin 512) : (iblk m c 4 t : Vec Ideal S1024x512 .bf16) (ix2 j k)
    = (m ((c.tc : Thread nD τ).loc main_arg4) : FVec Ideal S1024x16384 .bf16) (ix2 j (tok t k)) := by
  blk_point [iblk, V, idx t, tok]

theorem blk_n (t : Fin cfg0.N) (h i : Fin 8) (k : Fin 512) : (iblk m c 5 t : Vec Ideal S8x8x512 .f32) (ix3 h i k)
    = (m ((c.tc : Thread nD τ).loc main_arg5) : FVec Ideal S8x128x16384 .f32) (ix3 h (key t i) (tok t k)) := by
  blk_point [iblk, V, idx t, tok, key]

theorem blk_f (t : Fin cfg0.N) (h i : Fin 8) (k : Fin 512) : (iblk m c 6 t : Vec Ideal S8x8x512 .f32) (ix3 h i k)
    = (m ((c.tc : Thread nD τ).loc main_arg6) : FVec Ideal S8x128x16384 .f32) (ix3 h (key t i) (tok t k)) := by
  blk_point [iblk, V, idx t, tok, key]

theorem blk_y (t : Fin cfg0.N) (k : Fin 512) (d : Fin 2048) : (iblk m c 7 t : Vec Ideal S512x2048 .f32) (ix2 k d)
    = (m ((c.tc : Thread nD τ).loc main_arg7) : FVec Ideal S16384x2048 .f32) (ix2 (tok t k) d) := by
  blk_point [iblk, V, idx t, tok]

theorem blk_g (t : Fin cfg0.N) (d : Fin 2048) : (iblk m c 8 t : Vec Ideal S1x2048 .f32) (ix2 0 d)
    = (m ((c.tc : Thread nD τ).loc main_arg8) : FVec Ideal S2048 .f32) (ix1 d) := by
  blk_point [iblk, V, idx t]

/-- The named product of GELU's two constants is the product of the two as they are rounded. -/
theorem named_value : Named.named (F := Ideal) κ "c_alpha" (φ := .f32) 0x3D122279#32 = ((80338380498831 / 2251799813685248 : ℝ) : EReal) :=
  IdealRules.named_const.ideal_named_scalar _ _ _ _ rfl

/-- What expert `E` adds to entry `(T, d)` of the result's sum, from the arrays in memory. -/
def gainM (T : Fin 16384) (d : Fin 2048) (E : Fin 16384) : EReal :=
  gain (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (80338380498831 / 2251799813685248) T d E

theorem wt_eq (t : Fin cfg0.N) (k : Fin 512) (E : Fin 1024) : wtB (iblk m c 3 t) (iblk m c 4 t) (iblk m c 5 t) (iblk m c 6 t) E k
    = wt (m ((c.tc : Thread nD τ).loc main_arg3)) (m ((c.tc : Thread nD τ).loc main_arg4)) (m ((c.tc : Thread nD τ).loc main_arg5)) (m ((c.tc : Thread nD τ).loc main_arg6)) (ex t E) (tok t k) := by
  have hE : (ex t E).val % 128 = E.val % 128 := by show (t.val % 16 * 1024 + E.val) % 128 = _; omega
  have hK : key t ⟨E.val / 128, by omega⟩ = ⟨(ex t E).val / 128, by have := (ex t E).isLt; omega⟩ :=
    Fin.ext (by show 8 * (t.val % 16) + E.val / 128 = (t.val % 16 * 1024 + E.val) / 128; omega)
  unfold wtB wt
  simp only [blk_r, blk_e, blk_n, blk_f, hE, hK]

theorem up_eq (t : Fin cfg0.N) (k : Fin 512) (E : Fin 1024) : upB (iblk m c 1 t) (iblk m c 0 t) E k
    = up (m ((c.tc : Thread nD τ).loc main_arg0)) (m ((c.tc : Thread nD τ).loc main_arg1)) (ex t E) (tok t k) := by
  unfold upB up
  simp only [blk_u, blk_x]

/-- A point's step adds the parts of its 1024 experts. -/
theorem stepAt_at (t : Fin cfg0.N) (acc : Vec Ideal S2048x512 .f32) (d : Fin 2048) (k : Fin 512) :
    stepAt m c t acc (ix2 d k) = acc (ix2 d k) + ∑ E : Fin 1024, gainM m c (tok t k) d (ex t E) := by
  refine (step_apply _ _ _ _ _ _ _ acc d k).trans (congrArg (fun z : EReal => acc (ix2 d k) + z) (Finset.sum_congr rfl fun E _ => ?_))
  unfold hidB gainM gain
  rw [wt_eq, up_eq, blk_v, half, root, named_value]

theorem stepAt_apply (t : Fin cfg0.N) (acc : Vec Ideal S2048x512 .f32) (i : S2048x512.Idx) :
    stepAt m c t acc i = acc i + ∑ E : Fin 1024, gainM m c (tok t (i 1)) (i 0) (ex t E) := by
  have hi : i = ix2 (i 0) (i 1) := funext fun a => by fin_cases a <;> rfl
  refine (congrArg (stepAt m c t acc) hi).trans ((stepAt_at m c t acc (i 0) (i 1)).trans ?_)
  exact congrArg (fun z : S2048x512.Idx => (acc z : EReal) + _) hi.symm

/-- After a token tile's last point the sum holds every expert's part. -/
theorem sum_eq (t : Fin cfg0.N) (hr : t.val % 16 = 16 - 1) (d : Fin 2048) (k : Fin 512) :
    (outsAt0 m c t.val t.isLt).2 (ix2 d k) = ∑ E : Fin 16384, gainM m c (tok t k) d E := by
  rw [Pipeline.eq_sum_fin_of_reset_step_apply_of_flush (fun n h => (outsAt0 m c n h).2) 16 (fun _ => (0 : EReal))
    (fun t i => ∑ E : Fin 1024, gainM m c (tok t (i 1)) (i 0) (ex t E))
    (fun t h i => by
      rw [outs_A m c t h (by omega), stepAt_apply]
      refine congrArg (fun z : EReal => z + _) ?_
      pointwise [k0_pay3])
    (fun t h i => by
      by_cases h1 : t.val % 16 = 15
      · rw [outs_C m c t h h1, stepAt_apply]
      · rw [outs_B m c t h h1, stepAt_apply])
    t hr (ix2 d k), zero_add]
  refine Fin.sum_mul_add_congr fun s E hl => ?_
  have h : t.val < 512 := t.isLt
  have ht : tok ⟨16 * (t.val / 16) + s.val, by show _ < 512; omega⟩ k = tok t k :=
    Fin.ext (by show 512 * ((16 * (t.val / 16) + s.val) / 16) + k.val = 512 * (t.val / 16) + k.val; omega)
  have he : ex ⟨16 * (t.val / 16) + s.val, by show _ < 512; omega⟩ E = ⟨s.val * 1024 + E.val, hl⟩ :=
    Fin.ext (by show (16 * (t.val / 16) + s.val) % 16 * 1024 + E.val = s.val * 1024 + E.val; omega)
  exact congrArg₂ (fun a b => gainM m c a d b) ht he

/-- The residual and the experts' sum, then the norm: one entry. -/
theorem norm_at (x0 : FVec Ideal S16384x2048 .bf16) (x1 x2 : FVec Ideal S16384x2048 .f32) (x3 x4 : FVec Ideal S1024x16384 .bf16)
    (x5 x6 : FVec Ideal S8x128x16384 .f32) (x7 : FVec Ideal S16384x2048 .f32) (x8 : FVec Ideal S2048 .f32)
    (a : Vec Ideal S512x2048 .f32) (b : Vec Ideal S2048x512 .f32) (g : Vec Ideal S1x2048 .f32) (k : Fin 512) (T : Fin 16384)
    (h : ∀ d : Fin 2048, a (ix2 k d) + b (ix2 d k) = (val_main_v32 (F := Ideal) x0 x1 x2 x3 x4 x5 x6 x7 : FVec Ideal S16384x2048 .f32) (ix2 T d))
    (hg : ∀ d : Fin 2048, g (ix2 0 d) = x8 (ix1 d)) (d : Fin 2048) :
    k0_pay2 (F := Ideal) a b g (ix2 k d) = (val_main_v45 (F := Ideal) x0 x1 x2 x3 x4 x5 x6 x7 x8 : FVec Ideal S16384x2048 .f32) (ix2 T d) := by
  pointwise [k0_pay2, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_cst_5_apply, val_main_cst_6_apply, val_main_cst_7_apply]
  have hr : ∀ q : Fin 2048, idx_main_v34 (idx_main_v35 (idx_main_v41 (ix2 T d))) q = ix2 T q := fun q => funext fun a => by fin_cases a <;> rfl
  have hs : idx_main_v43 (idx_main_v44 (ix2 T d)) = ix1 d := funext fun a => by fin_cases a; rfl
  simp only [h, hg, hr, hs]

/-- Where an entry of a point's block of the result lies. -/
theorem out_lies (t : Fin cfg0.N) (y : S512x2048.Idx) : (win0_9.blk t).view.emb y = ix2 (tok t (y 0)) (y 1) := by
  blk_ext [idx t, tok]

/-- The array the kernel leaves in its output window is the reference's. -/
theorem final [Cert.Pre_finite_experts.Facts] (hpre : Cert.Pre_PeerExpertsIdeal_finite_experts m) : G9 m c
    = val_main_v45 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨hx, hu⟩ := Cert.Pre_finite_experts.real_of_fn _ _ _ _ _ _ _ _ _ (hpre c)
  choose x hx using hx
  choose u hu using hu
  have hup : ∀ E T, ∃ a : ℝ, up (m ((c.tc : Thread nD τ).loc main_arg0)) (m ((c.tc : Thread nD τ).loc main_arg1)) E T = a := fun E T => by
    unfold up
    simp only [hx, hu, ← EReal.coe_mul, Cert.AttnMath.sum_coe]
    exact ⟨_, rfl⟩
  refine (final9 m c).symm.trans ((dats m 0 c).arrAt_eq_of_covers 9 _ (by decide +kernel) fun t hf y => ?_)
  have hm : t.val % 16 = 15 := (flush0_9 t).mp hf
  blk_simp
  rw [after0_9, outs_last m c t (by omega) hm, ← outs_C m c t (by omega) hm]
  refine Eq.trans ?_ (congrArg _ (out_lies t y)).symm
  have hy : y = ix2 (y 0) (y 1) := funext fun a => by fin_cases a <;> rfl
  refine (congrArg _ hy).trans ?_
  refine norm_at _ _ _ _ _ _ _ _ _ _ _ _ (y 0) (tok t (y 0)) (fun d => ?_) (fun d => blk_g m c t d) (y 1)
  refine (congrArg₂ (fun a b : EReal => a + b) (blk_y m c t _ d) (sum_eq m c t hm d _)).trans ?_
  refine Eq.trans ?_ (val_main_v32_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) _).symm
  exact congrArg (fun z : EReal => _ + z) (out_at _ _ _ _ _ _ _ hup _ (by norm_num) _ d).symm

end Cert.PeerExpertsIdeal.Value
-- ==== Proof.AttnHead.lean ====
module

public import proofs.«01_k».proof.Proof.Gen.KernelIdeal.Frame
public import proofs.«01_k».proof.Proof.AttnMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.AttnMath

variable (m : (ℓ : Loc nD τ sig) → Buf (Elt Ideal) ℓ)

/-- The scores of one head over one block of keys, masked where the key lies before the sequence. -/
abbrev scores (vld : IVec S1x192 1) (Q : Vec Ideal S1x64x64 .bf16) (K : FVec Ideal S192x64 .bf16)
    (B : Vec Ideal S1x64x192 .f32) : FVec Ideal S64x192 .f32 :=
  select (broadcastTo S64x192 (shapeCast S1x192 vld shapeCasts_S1x192_S1x192) broadcasts_S1x192_S64x192)
    (addf (matmul dot_S64x64_S192x64_S64x192_1_1_0_0_n_n none (shapeCast S64x64 Q shapeCasts_S1x64x64_S64x64 : FVec Ideal S64x64 .bf16) K
        (constant S64x192 .f32 0x00000000#32))
      (shapeCast S64x192 B shapeCasts_S1x64x192_S64x192))
    (broadcast S64x192 (Scalar.ofBits .f32 0xF149F2CA#32))

/-- The row maximum of the scores and the sink. -/
abbrev rowMax (s : FVec Ideal S64x192 .f32) (sk : Elt Ideal .f32) : FVec Ideal S64x1 .f32 :=
  maximumf (shapeCast S64x1 (multiReduction .maximumf [1] S64 s 0xFF800000#32 reduces_S64x192_S64 (.inl rfl) rfl) shapeCasts_S64_S64x1)
    (broadcast S64x1 sk)

/-- One head's output block: the exponentials of the scores times the values, over the sum that also holds the sink. -/
abbrev head (vld : IVec S1x192 1) (Q : Vec Ideal S1x64x64 .bf16) (K Vv : FVec Ideal S192x64 .bf16)
    (B : Vec Ideal S1x64x192 .f32) (sk : Elt Ideal .f32) : FVec Ideal S1x64x64 .bf16 :=
  shapeCast S1x64x64 (truncf .bf16 (divf
    (matmul dot_S64x192_S192x64_S64x64_1_0_0_1_n_n none
      (truncf .bf16 (exp (subf (scores vld Q K B) (broadcastTo S64x192 (rowMax (scores vld Q K B) sk) broadcasts_S64x1_S64x192))) bitsLt_bf16_f32)
      Vv (constant S64x64 .f32 0x00000000#32))
    (broadcastTo S64x64
      (addf (shapeCast S64x1 (multiReduction .add [1] S64
          (exp (subf (scores vld Q K B) (broadcastTo S64x192 (rowMax (scores vld Q K B) sk) broadcasts_S64x1_S64x192)))
          0x00000000#32 reduces_S64x192_S64 (.inl rfl) rfl) shapeCasts_S64_S64x1)
        (exp (subf (broadcast S64x1 sk) (rowMax (scores vld Q K B) sk))))
      broadcasts_S64x1_S64x64)) bitsLt_bf16_f32) shapeCasts_S64x64_S1x64x64

theorem idx : ∀ t : Fin cfg0.N, ((grid0.coords t) 0).val = t.val / 16 ∧ ((grid0.coords t) 1).val = t.val % 16
    ∧ win0_0.index t = ![0] ∧ win0_1.index t = ![t.val / 16, t.val % 16, 0] ∧ win0_2.index t = ![t.val / 16, 0, 0]
    ∧ win0_3.index t = ![t.val / 16, 0, 0] ∧ win0_4.index t = ![0, 0, 0] ∧ win0_5.index t = ![t.val / 16, t.val % 16, 0] :=
  (by decide +kernel : ∀ t : Fin grid0.N, _)

/-- What follows the scores in a head. -/
abbrev headOf (s : FVec Ideal S64x192 .f32) (Vv : FVec Ideal S192x64 .bf16) (sk : Elt Ideal .f32) : FVec Ideal S1x64x64 .bf16 :=
  shapeCast S1x64x64 (truncf .bf16 (divf
    (matmul dot_S64x192_S192x64_S64x64_1_0_0_1_n_n none
      (truncf .bf16 (exp (subf s (broadcastTo S64x192 (rowMax s sk) broadcasts_S64x1_S64x192))) bitsLt_bf16_f32)
      Vv (constant S64x64 .f32 0x00000000#32))
    (broadcastTo S64x64
      (addf (shapeCast S64x1 (multiReduction .add [1] S64
          (exp (subf s (broadcastTo S64x192 (rowMax s sk) broadcasts_S64x1_S64x192)))
          0x00000000#32 reduces_S64x192_S64 (.inl rfl) rfl) shapeCasts_S64_S64x1)
        (exp (subf (broadcast S64x1 sk) (rowMax s sk))))
      broadcasts_S64x1_S64x64)) bitsLt_bf16_f32) shapeCasts_S64x64_S1x64x64

theorem rowMax_at (s : FVec Ideal S64x192 .f32) (sk : Elt Ideal .f32) (x : S64x1.Idx) :
    rowMax s sk x = top (fun k => s (ix2 (x 0) k)) sk := by
  have e : (Ideal.ofBits .f32 0xFF800000#32) = (⊥ : EReal) := by first | rfl | simp
  pointwise [rowMax]
  unfold top
  rw [← e]

theorem headOf_at (s : FVec Ideal S64x192 .f32) (Vv : FVec Ideal S192x64 .bf16) (sk : Elt Ideal .f32) (x : S1x64x64.Idx) :
    headOf s Vv sk x = attn (fun k => s (ix2 (x 1) k)) sk (fun k => Vv (ix2 k (x 2))) := by
  have hM : ∀ r : Fin 64, rowMax s sk (ix2 r 0) = top (fun k => s (ix2 r k)) sk := fun r => rowMax_at s sk _
  revert hM
  unfold headOf
  generalize rowMax s sk = M
  intro hM
  pointwise []
  have h := hM (x 1)
  unfold attn
  generalize top (fun k => s (ix2 (x 1) k)) sk = N at h ⊢
  subst h
  rfl

theorem scores_at (vld : IVec S1x192 1) (Q : Vec Ideal S1x64x64 .bf16) (K : FVec Ideal S192x64 .bf16)
    (B : Vec Ideal S1x64x192 .f32) (r : Fin 64) (k : Fin 192) : scores vld Q K B (ix2 r k)
      = Scalar.select (vld (ix2 0 k)) (∑ d, Q (ix3 0 r d) * K (ix2 k d) + B (ix3 0 r k)) (Ideal.ofBits .f32 0xF149F2CA#32) := by
  pointwise [scores]

/-- The position of the first of the 192 keys of a block. -/
theorem start_eq : ∀ (n : Fin 16) (s : Fin 2), (Scalar.indexCast (Scalar.muli (Scalar.addi (Scalar.muli (BitVec.ofNat 32 n.val) 2#32) (BitVec.ofNat 32 s.val)) 64#32)).toNat = 64 * (2 * n.val + s.val) := by
  decide +kernel

/-- The mask's comparison. -/
theorem mask_bit : ∀ (n : Fin 16) (s : Fin 2) (k : Fin 192),
    IntOp.cmpi .sge (IntOp.addi (Scalar.muli (Scalar.addi (Scalar.muli (BitVec.ofNat 32 n.val) 2#32) (BitVec.ofNat 32 s.val)) 64#32) (BitVec.ofNat 32 k.val)) 128#32
      = if 128 ≤ 64 * (2 * n.val + s.val) + k.val then 1#1 else 0#1 := by
  decide +kernel

theorem mask_at (u : BitVec 32) (k : Fin 192) :
    cmpi .sge (addi (broadcast S1x192 u) (iota .tc S1x192 32 [1] iota_S1x192_d1_w32)) (broadcast S1x192 128#32) (ix2 0 k)
      = IntOp.cmpi .sge (IntOp.addi u (BitVec.ofNat 32 k.val)) 128#32 := by
  pointwise []

/-- A load of a block of 192 rows, read at an index. -/
theorem ld_rows (X : Vec Ideal S1x2176x128 .bf16) (off : Fin 3 → Nat) (inb) (h0 : off 0 = 0) (r : Fin 192) (d : Fin 128)
    (R : Fin 2176) (C : Fin 128) (hR : off 1 + r.val = R.val) (hC : off 2 + d.val = C.val) :
    View.ld X (Rect.unit (s := S1x2176x128) off ![1, 192, 128] inb) (ix3 0 r d) = X (ix3 0 R C) := by
  pointwise []
  refine congrArg X (funext fun a => Fin.ext ?_)
  match a with
  | ⟨0, _⟩ => exact h0
  | ⟨1, _⟩ => exact hR
  | ⟨2, _⟩ => exact hC

/-- A load of a head of 64 queries, read at an index. -/
theorem ld_q (X : Vec Ideal S1x128x1024 .bf16) (off : Fin 3 → Nat) (inb) (h0 : off 0 = 0) (r : Fin 64) (d : Fin 64)
    (R : Fin 128) (C : Fin 1024) (hR : off 1 + r.val = R.val) (hC : off 2 + d.val = C.val) :
    View.ld X (Rect.unit (s := S1x128x1024) off ![1, 64, 64] inb) (ix3 0 r d) = X (ix3 0 R C) := by
  pointwise []
  refine congrArg X (funext fun a => Fin.ext ?_)
  match a with
  | ⟨0, _⟩ => exact h0
  | ⟨1, _⟩ => exact hR
  | ⟨2, _⟩ => exact hC

theorem ld_b (X : Vec Ideal S16x64x192 .f32) (off : Fin 3 → Nat) (inb) (r : Fin 64) (k : Fin 192)
    (H : Fin 16) (h0 : off 0 = H.val) (h1 : off 1 = 0) (h2 : off 2 = 0) :
    View.ld X (Rect.unit (s := S16x64x192) off ![1, 64, 192] inb) (ix3 0 r k) = X (ix3 H r k) := by
  pointwise []
  refine congrArg X (funext fun a => Fin.ext ?_)
  match a with
  | ⟨0, _⟩ => exact h0
  | ⟨1, _⟩ => show off 1 + r.val = r.val; omega
  | ⟨2, _⟩ => show off 2 + k.val = k.val; omega

theorem ld_s (X : Vec Ideal S16 .f32) (off : Fin 1 → Nat) (inb) (i) (H : Fin 16) (h0 : off 0 = H.val) :
    View.ld X (Rect.unit (s := S16) off ![1] inb) i = X (ix1 H) := by
  pointwise []
  exact congrArg X (funext fun a => Fin.ext (by match a with | ⟨0, _⟩ => exact h0))

/-- Columns of a block of keys, read at an index. -/
theorem cols_at (Y : Vec Ideal S1x192x128 .bf16) (go : Fin 2 → Nat) (h) (k : Fin 192) (d : Fin 64) (C : Fin 128)
    (h0 : go 0 = 0) (hC : go 1 + d.val = C.val) :
    (extractStridedSlice S192x64 go (shapeCast S192x128 Y shapeCasts_S1x192x128_S192x128 : FVec Ideal S192x128 .bf16) h) (ix2 k d) = Y (ix3 0 k C) := by
  pointwise []
  exact congrArg₂ (fun a b => Y (ix3 0 a b)) (Fin.ext (by show go 0 + k.val = k.val; omega)) (Fin.ext hC)

/-- The score of key `k` of the window before row `r` of a block, from the blocks. -/
def blkScore (n : Fin 16) (X1 : Vec Ideal S1x128x1024 .bf16) (X2 : Vec Ideal S1x2176x128 .bf16) (X4 : Vec Ideal S16x64x192 .f32)
    (r : Fin 128) (c : Fin 1024) (k : Fin 192) : EReal :=
  if 128 ≤ 64 * (2 * n.val + r.val / 64) + k.val then
    ∑ d : Fin 64, X1 (ix3 0 r ⟨64 * (c.val / 64) + d.val, by omega⟩)
        * X2 (ix3 0 ⟨64 * (2 * n.val + r.val / 64) + k.val, by omega⟩ ⟨64 * (c.val / 512) + d.val, by omega⟩)
      + X4 (ix3 ⟨c.val / 64, by omega⟩ ⟨r.val % 64, by omega⟩ k)
  else Ideal.ofBits .f32 0xF149F2CA#32

/-- The value of that key, from the block. -/
def blkVal (n : Fin 16) (X3 : Vec Ideal S1x2176x128 .bf16) (r : Fin 128) (c : Fin 1024) (k : Fin 192) : EReal :=
  X3 (ix3 0 ⟨64 * (2 * n.val + r.val / 64) + k.val, by omega⟩ ⟨64 * (c.val / 512) + c.val % 64, by omega⟩)

/-- One head's block, read at an index, from the blocks the program reads. -/
theorem piece (n : Fin 16) (s : Fin 2) (X0 : Vec Ideal S16 .f32) (X1 : Vec Ideal S1x128x1024 .bf16)
    (X2 X3 : Vec Ideal S1x2176x128 .bf16) (X4 : Vec Ideal S16x64x192 .f32)
    (uc : BitVec 32) (qo ko bo : Fin 3 → Nat) (so : Fin 1 → Nat) (go : Fin 2 → Nat) (iq ik iv ib is gk gv fi) (H : Fin 16)
    (r : Fin 128) (c : Fin 1024) (x : S1x64x64.Idx)
    (huc : uc = Scalar.muli (Scalar.addi (Scalar.muli (BitVec.ofNat 32 n.val) 2#32) (BitVec.ofNat 32 s.val)) 64#32)
    (hr : r.val = 64 * s.val + (x 1).val) (hc : c.val = 64 * H.val + (x 2).val)
    (hq0 : qo 0 = 0) (hq1 : qo 1 = 64 * s.val) (hq2 : qo 2 = 64 * H.val)
    (hk0 : ko 0 = 0) (hk1 : ko 1 = 64 * (2 * n.val + s.val)) (hk2 : ko 2 = 0)
    (hb0 : bo 0 = H.val) (hb1 : bo 1 = 0) (hb2 : bo 2 = 0) (hs0 : so 0 = H.val)
    (hg0 : go 0 = 0) (hg1 : go 1 = 64 * (H.val / 8)) :
    head (cmpi .sge (addi (broadcast S1x192 uc) (iota .tc S1x192 32 [1] iota_S1x192_d1_w32)) (broadcast S1x192 128#32))
        (View.ld X1 (Rect.unit (s := S1x128x1024) qo ![1, 64, 64] iq))
        (extractStridedSlice S192x64 go (shapeCast S192x128 (View.ld X2 (Rect.unit (s := S1x2176x128) ko ![1, 192, 128] ik)) shapeCasts_S1x192x128_S192x128 : FVec Ideal S192x128 .bf16) gk)
        (extractStridedSlice S192x64 go (shapeCast S192x128 (View.ld X3 (Rect.unit (s := S1x2176x128) ko ![1, 192, 128] iv)) shapeCasts_S1x192x128_S192x128 : FVec Ideal S192x128 .bf16) gv)
        (View.ld X4 (Rect.unit (s := S16x64x192) bo ![1, 64, 192] ib))
        (View.ld X0 (Rect.unit (s := S16) so ![1] is) fi) x
      = attn (blkScore n X1 X2 X4 r c) (X0 (ix1 ⟨c.val / 64, by omega⟩)) (blkVal n X3 r c) := by
  have x1 : (x 1).val < 64 := (x 1).isLt
  have x2 : (x 2).val < 64 := (x 2).isLt
  have hH : H.val < 16 := H.isLt
  have hsl : s.val < 2 := s.isLt
  have hn : n.val < 16 := n.isLt
  have e64 : c.val / 64 = H.val := by omega
  have e512 : c.val / 512 = H.val / 8 := by omega
  have er : r.val / 64 = s.val := by omega
  have er' : r.val % 64 = (x 1).val := by omega
  have ec' : c.val % 64 = (x 2).val := by omega
  show headOf (scores _ _ _ _) _ _ x = _
  rw [headOf_at]
  have hsk := ld_s X0 so is fi ⟨c.val / 64, by omega⟩ (by rw [hs0]; exact e64.symm)
  have hv : (fun k : Fin 192 => (extractStridedSlice S192x64 go (shapeCast S192x128 (View.ld X3 (Rect.unit (s := S1x2176x128) ko ![1, 192, 128] iv)) shapeCasts_S1x192x128_S192x128 : FVec Ideal S192x128 .bf16) gv) (ix2 k (x 2))) = blkVal n X3 r c := by
    funext k
    refine (cols_at _ go gv k (x 2) ⟨64 * (c.val / 512) + c.val % 64, by omega⟩ hg0 (by show _ = 64 * (c.val / 512) + c.val % 64; omega)).trans ?_
    exact ld_rows X3 ko iv hk0 k _ ⟨64 * (2 * n.val + r.val / 64) + k.val, by omega⟩ _ (by show _ = 64 * (2 * n.val + r.val / 64) + k.val; omega) (by show _ = 64 * (c.val / 512) + c.val % 64; rw [hk2]; show 0 + (64 * (c.val / 512) + c.val % 64) = _; omega)
  have hsc : (fun k : Fin 192 => scores (cmpi .sge (addi (broadcast S1x192 uc) (iota .tc S1x192 32 [1] iota_S1x192_d1_w32)) (broadcast S1x192 128#32))
        (View.ld X1 (Rect.unit (s := S1x128x1024) qo ![1, 64, 64] iq))
        (extractStridedSlice S192x64 go (shapeCast S192x128 (View.ld X2 (Rect.unit (s := S1x2176x128) ko ![1, 192, 128] ik)) shapeCasts_S1x192x128_S192x128 : FVec Ideal S192x128 .bf16) gk)
        (View.ld X4 (Rect.unit (s := S16x64x192) bo ![1, 64, 192] ib)) (ix2 (x 1) k)) = blkScore n X1 X2 X4 r c := by
    funext k
    refine (scores_at _ _ _ _ (x 1) k).trans ?_
    rw [mask_at, huc, mask_bit]
    unfold blkScore
    by_cases hm : 128 ≤ 64 * (2 * n.val + s.val) + k.val
    · rw [if_pos hm, if_pos (show 128 ≤ 64 * (2 * n.val + r.val / 64) + k.val by omega)]
      rw [show ∀ a b : EReal, Scalar.select 1#1 a b = a from fun _ _ => rfl]
      refine congrArg₂ (· + ·) (Finset.sum_congr rfl fun d _ => congrArg₂ (· * ·) ?_ ?_) ?_
      · exact ld_q X1 qo iq hq0 (x 1) d r ⟨64 * (c.val / 64) + d.val, by omega⟩ (by omega) (by show _ = 64 * (c.val / 64) + d.val; omega)
      · refine (cols_at _ go gk k d ⟨64 * (c.val / 512) + d.val, by omega⟩ hg0 (by show _ = 64 * (c.val / 512) + d.val; omega)).trans ?_
        exact ld_rows X2 ko ik hk0 k _ ⟨64 * (2 * n.val + r.val / 64) + k.val, by omega⟩ _ (by show _ = 64 * (2 * n.val + r.val / 64) + k.val; omega) (by rw [hk2]; exact Nat.zero_add _)
      · refine (ld_b X4 bo ib (x 1) k ⟨c.val / 64, by omega⟩ (by rw [hb0]; exact e64.symm) hb1 hb2).trans ?_
        exact congrArg (fun z : Fin 64 => X4 (ix3 ⟨c.val / 64, by omega⟩ z k)) (Fin.ext er'.symm)
    · rw [if_neg hm, if_neg (show ¬128 ≤ 64 * (2 * n.val + r.val / 64) + k.val by omega)]
      rfl
  exact congr (congr (congrArg attn hsc) hsk) hv

end Cert.KernelIdeal.Value
-- ==== Proof.AttnVal.lean ====
module

public import proofs.«01_k».proof.Proof.Gen.KernelIdeal.Frame
public import proofs.«01_k».proof.Proof.AttnHead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.AttnMath

variable (m : (ℓ : Loc nD τ sig) → Buf (Elt Ideal) ℓ)

set_option maxHeartbeats 16000000 in
/-- An element of the block the program stores, from the blocks it reads. -/
theorem point (c : Dev nD) (t : Fin cfg0.N) (y : S1x128x1024.Idx) :
    outsAt0 m c t y = attn (blkScore ((grid0.coords t) 1) (iblk m c 1 t) (iblk m c 2 t) (iblk m c 4 t) (y 1) (y 2))
      ((iblk m c 0 t : Vec Ideal S16 .f32) (ix1 ⟨(y 2).val / 64, by have h : (y 2).val < 1024 := (y 2).isLt; omega⟩))
      (blkVal ((grid0.coords t) 1) (iblk m c 3 t) (y 1) (y 2)) := by
  have y2 : (y 2).val < 1024 := (y 2).isLt
  unfold outsAt0
  frame_out
  canon_tiles x h
  all_goals
    have x1 : (x 1).val < 64 := (x 1).isLt
    have x2 : (x 2).val < 64 := (x 2).isLt
    open_payloads
    refine Eq.trans (b := head _ _ _ _ _ _ x) rfl ?_
    first
    | have hr : (y 1).val = 64 * (0 : Fin 2).val + (x 1).val := by first | exact h1 | exact h1.trans (Nat.zero_add _).symm
      refine piece ((grid0.coords t) 1) 0 (iblk m c 0 t) (iblk m c 1 t) (iblk m c 2 t) (iblk m c 3 t) (iblk m c 4 t) _ _ _ _ _ _ _ _ _ _ _ _ _ _ ⟨(y 2).val / 64, by omega⟩ (y 1) (y 2) x rfl hr ?_ rfl rfl ?_ rfl (start_eq _ 0) rfl ?_ rfl rfl ?_ rfl ?_
    | have hr : (y 1).val = 64 * (1 : Fin 2).val + (x 1).val := h1
      refine piece ((grid0.coords t) 1) 1 (iblk m c 0 t) (iblk m c 1 t) (iblk m c 2 t) (iblk m c 3 t) (iblk m c 4 t) _ _ _ _ _ _ _ _ _ _ _ _ _ _ ⟨(y 2).val / 64, by omega⟩ (y 1) (y 2) x rfl hr ?_ rfl rfl ?_ rfl (start_eq _ 1) rfl ?_ rfl rfl ?_ rfl ?_
    all_goals simp only [Matrix.cons_val]; omega

end Cert.KernelIdeal.Value
-- ==== Proof.AttnRef.lean ====
module

public import proofs.«01_k».proof.Proof.Gen.ReferenceIdeal.Read
public import proofs.«01_k».proof.Proof.AttnMath
public import Idealize.ShloMosaic.Lib.Pipeline.ValueKit
public import Idealize.ShloMosaic.Lib.Pointwise

@[expose] public section

set_option maxRecDepth 16384

noncomputable section

/-! The attention's reference, read at an index: the softmax form of one row. -/

open Idealize.ShloMosaic Idealize.ShloMosaic.TcCoe Idealize.SL.Sem

namespace Cert.ReferenceIdeal.Attn

open Cert.ReferenceIdeal Cert.ReferenceIdeal.Gen Cert.ReferenceIdeal.Read Cert.AttnMath

variable (x0 : Vec Ideal S8x2048x1024 .f32) (x1 x2 : Vec Ideal S8x2048x128 .f32) (x3 : Vec Ideal S16x64x192 .f32)
  (x4 : Vec Ideal S16 .f32)

/-- Reading the values under the split of their columns into two groups of 64. -/
theorem read4 (x : Vec Ideal S8x2048x128 .f32) (p : S8x2048x2x64.Idx) (B : Fin 8) (R : Fin 2048) (C : Fin 128)
    (e0 : (p 0).val = B.val) (e1 : (p 1).val = R.val) (e2 : (p 2).val * 64 + (p 3).val = C.val) : x (idx_main_v4 p) = x (ix3 B R C) := by
  have h0 := lt_of_lt_of_eq (p 0).isLt (rfl : _ = 8)
  have h1 := lt_of_lt_of_eq (p 1).isLt (rfl : _ = 2048)
  have h2 := lt_of_lt_of_eq (p 2).isLt (rfl : _ = 2)
  have h3 := lt_of_lt_of_eq (p 3).isLt (rfl : _ = 64)
  refine congrArg x (funext fun a => Fin.ext ?_)
  match a with
  | ⟨0, _⟩ => show ((((p 0).val * 2048 + (p 1).val) * 2 + (p 2).val) * 64 + (p 3).val) / 262144 = B.val; omega
  | ⟨1, _⟩ => show ((((p 0).val * 2048 + (p 1).val) * 2 + (p 2).val) * 64 + (p 3).val) / 128 % 2048 = R.val; omega
  | ⟨2, _⟩ => show ((((p 0).val * 2048 + (p 1).val) * 2 + (p 2).val) * 64 + (p 3).val) % 128 = C.val; omega

/-- Reading the keys under the split of their columns into two groups of 64. -/
theorem read1 (x : Vec Ideal S8x2048x128 .f32) (p : S8x2048x2x64.Idx) (B : Fin 8) (R : Fin 2048) (C : Fin 128)
    (e0 : (p 0).val = B.val) (e1 : (p 1).val = R.val) (e2 : (p 2).val * 64 + (p 3).val = C.val) : x (idx_main_v1 p) = x (ix3 B R C) := by
  have h0 := lt_of_lt_of_eq (p 0).isLt (rfl : _ = 8)
  have h1 := lt_of_lt_of_eq (p 1).isLt (rfl : _ = 2048)
  have h2 := lt_of_lt_of_eq (p 2).isLt (rfl : _ = 2)
  have h3 := lt_of_lt_of_eq (p 3).isLt (rfl : _ = 64)
  refine congrArg x (funext fun a => Fin.ext ?_)
  match a with
  | ⟨0, _⟩ => show ((((p 0).val * 2048 + (p 1).val) * 2 + (p 2).val) * 64 + (p 3).val) / 262144 = B.val; omega
  | ⟨1, _⟩ => show ((((p 0).val * 2048 + (p 1).val) * 2 + (p 2).val) * 64 + (p 3).val) / 128 % 2048 = R.val; omega
  | ⟨2, _⟩ => show ((((p 0).val * 2048 + (p 1).val) * 2 + (p 2).val) * 64 + (p 3).val) % 128 = C.val; omega

/-- The pad value of the values is zero. -/
theorem sitofp_zero : (FloatOps.sitofp (F := Ideal) FTy.f32 (0#32) : EReal) = 0 := by
  show (((0#32 : BitVec 32).toInt : ℝ) : EReal) = 0
  simp

/-- A row number of the padded sequence, split into its parts. -/
theorem split (b n w g d : ℕ) (hn : n < 34) (hw : w < 64) (hg : g < 2) (hd : d < 64) :
    ((((b * 34 + n) * 64 + w) * 2 + g) * 64 + d) / 278528 = b
    ∧ ((((b * 34 + n) * 64 + w) * 2 + g) * 64 + d) / 128 % 2176 = n * 64 + w
    ∧ ((((b * 34 + n) * 64 + w) * 2 + g) * 64 + d) / 64 % 2 = g
    ∧ ((((b * 34 + n) * 64 + w) * 2 + g) * 64 + d) % 64 = d := by
  refine ⟨?_, ?_, ?_, ?_⟩ <;> omega

set_option maxHeartbeats 2000000 in
/-- The window's values at a row of keys: the values 128 places back, zero before the sequence. -/
theorem values_at (i : S8x32x192x2x64.Idx) : val_main_v14 x2 i =
    if h : 128 ≤ 64 * (i 1).val + (i 2).val then
      x2 (ix3 ⟨(i 0).val, (i 0).isLt⟩
        ⟨64 * (i 1).val + (i 2).val - 128, by have := lt_of_lt_of_eq (i 1).isLt (rfl : _ = 32); have := lt_of_lt_of_eq (i 2).isLt (rfl : _ = 192); show _ < 2048; omega⟩
        ⟨64 * (i 3).val + (i 4).val, by have := lt_of_lt_of_eq (i 3).isLt (rfl : _ = 2); have := lt_of_lt_of_eq (i 4).isLt (rfl : _ = 64); show _ < 128; omega⟩)
    else 0 := by
  pointwise [val_main_v14, val_main_v11_apply, val_main_v12_apply, val_main_v13_apply, val_main_v6_apply, val_main_v5, val_main_v4_apply, val_main_call1_v0_apply, val_main_c_0_apply]
  have h0 := lt_of_lt_of_eq (i 0).isLt (rfl : _ = 8)
  have h1 := lt_of_lt_of_eq (i 1).isLt (rfl : _ = 32)
  have h2 := lt_of_lt_of_eq (i 2).isLt (rfl : _ = 192)
  have h3 := lt_of_lt_of_eq (i 3).isLt (rfl : _ = 2)
  have h4 := lt_of_lt_of_eq (i 4).isLt (rfl : _ = 64)
  split
  · obtain ⟨e0, e1, e2, e3⟩ := split (i 0) (i 1) (i 2) (i 3) (i 4) (by omega) (by omega) h3 h4
    by_cases h : 128 ≤ 64 * (i 1).val + (i 2).val
    · rw [dif_pos h, dif_pos (by rw [e0, e1, e2, e3]; omega)]
      exact read4 _ _ _ _ _ e0 ((congrArg (· - 128) e1).trans (by dsimp only; omega)) ((congrArg₂ (fun p q => p * 64 + q) e2 e3).trans (by dsimp only; omega))
    · rw [dif_neg h, dif_neg (by rw [e0, e1, e2, e3]; omega)]
      exact sitofp_zero
  · split
    · obtain ⟨e0, e1, e2, e3⟩ := split (i 0) (1 + (i 1)) ((i 2) - 64) (i 3) (i 4) (by omega) (by omega) h3 h4
      by_cases h : 128 ≤ 64 * (i 1).val + (i 2).val
      · rw [dif_pos h, dif_pos (by rw [e0, e1, e2, e3]; omega)]
        exact read4 _ _ _ _ _ e0 ((congrArg (· - 128) e1).trans (by dsimp only; omega)) ((congrArg₂ (fun p q => p * 64 + q) e2 e3).trans (by dsimp only; omega))
      · rw [dif_neg h, dif_neg (by rw [e0, e1, e2, e3]; omega)]
        exact sitofp_zero
    · obtain ⟨e0, e1, e2, e3⟩ := split (i 0) (2 + (i 1)) ((i 2) - 64 - 64) (i 3) (i 4) (by omega) (by omega) h3 h4
      by_cases h : 128 ≤ 64 * (i 1).val + (i 2).val
      · rw [dif_pos h, dif_pos (by rw [e0, e1, e2, e3]; omega)]
        exact read4 _ _ _ _ _ e0 ((congrArg (· - 128) e1).trans (by dsimp only; omega)) ((congrArg₂ (fun p q => p * 64 + q) e2 e3).trans (by dsimp only; omega))
      · rw [dif_neg h, dif_neg (by rw [e0, e1, e2, e3]; omega)]
        exact sitofp_zero

set_option maxHeartbeats 2000000 in
/-- The window's keys likewise. -/
theorem keys_at (i : S8x32x192x2x64.Idx) (h : 128 ≤ 64 * (i 1).val + (i 2).val) : val_main_v10 x1 i =
      x1 (ix3 ⟨(i 0).val, (i 0).isLt⟩
        ⟨64 * (i 1).val + (i 2).val - 128, by have := lt_of_lt_of_eq (i 1).isLt (rfl : _ = 32); have := lt_of_lt_of_eq (i 2).isLt (rfl : _ = 192); show _ < 2048; omega⟩
        ⟨64 * (i 3).val + (i 4).val, by have := lt_of_lt_of_eq (i 3).isLt (rfl : _ = 2); have := lt_of_lt_of_eq (i 4).isLt (rfl : _ = 64); show _ < 128; omega⟩) := by
  pointwise [val_main_v10, val_main_v7_apply, val_main_v8_apply, val_main_v9_apply, val_main_v3_apply, val_main_v2, val_main_v1_apply, val_main_call0_v0_apply, val_main_c_apply]
  have h0 := lt_of_lt_of_eq (i 0).isLt (rfl : _ = 8)
  have h1 := lt_of_lt_of_eq (i 1).isLt (rfl : _ = 32)
  have h2 := lt_of_lt_of_eq (i 2).isLt (rfl : _ = 192)
  have h3 := lt_of_lt_of_eq (i 3).isLt (rfl : _ = 2)
  have h4 := lt_of_lt_of_eq (i 4).isLt (rfl : _ = 64)
  split
  · obtain ⟨e0, e1, e2, e3⟩ := split (i 0) (i 1) (i 2) (i 3) (i 4) (by omega) (by omega) h3 h4
    rw [dif_pos (by rw [e0, e1, e2, e3]; omega)]
    exact read1 _ _ _ _ _ e0 ((congrArg (· - 128) e1).trans (by dsimp only; omega)) ((congrArg₂ (fun p q => p * 64 + q) e2 e3).trans (by dsimp only; omega))
  · split
    · obtain ⟨e0, e1, e2, e3⟩ := split (i 0) (1 + (i 1)) ((i 2) - 64) (i 3) (i 4) (by omega) (by omega) h3 h4
      rw [dif_pos (by rw [e0, e1, e2, e3]; omega)]
      exact read1 _ _ _ _ _ e0 ((congrArg (· - 128) e1).trans (by dsimp only; omega)) ((congrArg₂ (fun p q => p * 64 + q) e2 e3).trans (by dsimp only; omega))
    · obtain ⟨e0, e1, e2, e3⟩ := split (i 0) (2 + (i 1)) ((i 2) - 64 - 64) (i 3) (i 4) (by omega) (by omega) h3 h4
      rw [dif_pos (by rw [e0, e1, e2, e3]; omega)]
      exact read1 _ _ _ _ _ e0 ((congrArg (· - 128) e1).trans (by dsimp only; omega)) ((congrArg₂ (fun p q => p * 64 + q) e2 e3).trans (by dsimp only; omega))

/-- One row of scores with its sink, as the reference lays it out. -/
abbrev row (i : S8x32x2x8x64.Idx) (k : Fin 193) : EReal := val_main_v40 x0 x1 x3 x4 (idx_main_v48 i k)

theorem max_at (i : S8x32x2x8x64.Idx) : val_main_v43 x0 x1 x3 x4 i = topAll (row x0 x1 x3 x4 i) := by
  rw [val_main_v43_apply, val_main_v42_apply]
  unfold val_main_v41 topAll row
  rw [Host.reduce_eq_fold_single _ _ _ reducesTo_S8x32x2x8x64x193_S8x32x2x8x64_d5 (by decide)]
  have e : (Ideal.ofBits .f32 0xFF800000#32) = (⊥ : EReal) := by first | rfl | simp
  generalize val_main_v40 x0 x1 x3 x4 = y
  refine congrArg₂ max e ?_
  refine (congrArg (fun z => Finset.fold max z _ _) e).trans ?_
  refine Finset.sup_congr rfl fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem exp_at (i : S8x32x2x8x64.Idx) (k : Fin 193) :
    val_main_v47 x0 x1 x3 x4 (idx_main_v48 i k) = Ideal.exp (row x0 x1 x3 x4 i k - topAll (row x0 x1 x3 x4 i)) := by
  rw [val_main_v47_apply, val_main_v46_apply, val_main_v45_apply, val_main_v44_apply]
  have e : idx_main_v44 (idx_main_v45 (idx_main_v48 i k)) = i := funext fun a => Fin.ext (by match a with | ⟨0, _⟩ => rfl | ⟨1, _⟩ => rfl | ⟨2, _⟩ => rfl | ⟨3, _⟩ => rfl | ⟨4, _⟩ => rfl)
  rw [e, max_at]
  rfl

theorem sum_at (i : S8x32x2x8x64.Idx) :
    val_main_v48 x0 x1 x3 x4 i = 0 + ∑ k : Fin 193, Ideal.exp (row x0 x1 x3 x4 i k - topAll (row x0 x1 x3 x4 i)) := by
  rw [val_main_v48_apply, val_main_cst_7_apply]
  refine congrArg₂ (· + ·) Ideal.ofBits_zero_f32 (Finset.sum_congr rfl fun k _ => exp_at x0 x1 x3 x4 i k)

theorem weight_at (i : S8x32x2x8x64.Idx) (k : Fin 193) :
    val_main_v51 x0 x1 x3 x4 (idx_main_v48 i k) = Ideal.div (Ideal.exp (row x0 x1 x3 x4 i k - topAll (row x0 x1 x3 x4 i)))
      (0 + ∑ k : Fin 193, Ideal.exp (row x0 x1 x3 x4 i k - topAll (row x0 x1 x3 x4 i))) := by
  rw [val_main_v51_apply, val_main_v50_apply, val_main_v49_apply, exp_at]
  have e : idx_main_v49 (idx_main_v50 (idx_main_v48 i k)) = i := funext fun a => Fin.ext (by match a with | ⟨0, _⟩ => rfl | ⟨1, _⟩ => rfl | ⟨2, _⟩ => rfl | ⟨3, _⟩ => rfl | ⟨4, _⟩ => rfl)
  rw [e, sum_at]
  rfl

/-- The row that an entry of the output reads. -/
abbrev rowOf (i : S8x32x2x64x8x64.Idx) : S8x32x2x8x64.Idx := ix5 ⟨(i 0).val, (i 0).isLt⟩ ⟨(i 1).val, (i 1).isLt⟩ ⟨(i 2).val, (i 2).isLt⟩ ⟨(i 4).val, (i 4).isLt⟩ ⟨(i 5).val, (i 5).isLt⟩

theorem out_at (i : S8x32x2x64x8x64.Idx) : val_main_v53 x0 x1 x2 x3 x4 i
    = softmaxAttn (row x0 x1 x3 x4 (rowOf i)) (fun k => val_main_v14 x2 (lidx_main_v53 i k)) := by
  rw [val_main_v53_apply]
  unfold softmaxAttn
  refine Finset.sum_congr rfl fun k _ => congrArg (_ * ·) ?_
  rw [val_main_v52_apply, ← weight_at]
  exact congrArg _ (funext fun a => Fin.ext (by match a with | ⟨0, _⟩ => rfl | ⟨1, _⟩ => rfl | ⟨2, _⟩ => rfl | ⟨3, _⟩ => rfl | ⟨4, _⟩ => rfl | ⟨5, _⟩ => rfl))

/-- The windowed values at an entry of the output. -/
theorem val_at (i : S8x32x192x2x64.Idx) (b : Fin 8) (r : Fin 2048) (c : Fin 1024) (j : Fin 192)
    (e0 : (i 0).val = b.val) (e1 : (i 1).val = r.val / 64) (e2 : (i 2).val = j.val) (e3 : (i 3).val = c.val / 512)
    (e4 : (i 4).val = c.val % 64) : val_main_v14 x2 i = refVal x2 b r c j := by
  rw [values_at]
  unfold refVal
  by_cases h : 128 ≤ 64 * (r.val / 64) + j.val
  · rw [dif_pos h, dif_pos (by rw [e1, e2]; exact h)]
    refine congrArg x2 (funext fun a => Fin.ext ?_)
    match a with
    | ⟨0, _⟩ => exact e0
    | ⟨1, _⟩ => show 64 * (i 1).val + (i 2).val - 128 = 64 * (r.val / 64) + j.val - 128; rw [e1, e2]
    | ⟨2, _⟩ => show 64 * (i 3).val + (i 4).val = 64 * (c.val / 512) + c.val % 64; rw [e3, e4]
  · rw [dif_neg h, dif_neg (by rw [e1, e2]; exact h)]

/-- The windowed keys where the window lies in the sequence. -/
theorem key_at (i : S8x32x192x2x64.Idx) (b : Fin 8) (r : Fin 2048) (c : Fin 1024) (j : Fin 192) (d : Fin 64)
    (h : 128 ≤ 64 * (r.val / 64) + j.val)
    (e0 : (i 0).val = b.val) (e1 : (i 1).val = r.val / 64) (e2 : (i 2).val = j.val) (e3 : (i 3).val = c.val / 512)
    (e4 : (i 4).val = d.val) : val_main_v10 x1 i
      = x1 (ix3 b ⟨64 * (r.val / 64) + j.val - 128, by omega⟩ ⟨64 * (c.val / 512) + d.val, by omega⟩) := by
  rw [keys_at x1 i (by rw [e1, e2]; exact h)]
  refine congrArg x1 (funext fun a => Fin.ext ?_)
  match a with
  | ⟨0, _⟩ => exact e0
  | ⟨1, _⟩ => show 64 * (i 1).val + (i 2).val - 128 = 64 * (r.val / 64) + j.val - 128; rw [e1, e2]
  | ⟨2, _⟩ => show 64 * (i 3).val + (i 4).val = 64 * (c.val / 512) + d.val; rw [e3, e4]

/-- The mask's comparison. -/
theorem mask_bit : ∀ (n : Fin 32) (w : Fin 192),
    IntOp.cmpi .sge (IntOp.addi (IntOp.subi (IntOp.muli (BitVec.ofNat 32 n.val) 64#32) 128#32) (BitVec.ofNat 32 w.val)) 0#32
      = if 128 ≤ 64 * n.val + w.val then 1#1 else 0#1 := by
  decide +kernel

/-- The scores, at an entry of the window. -/
theorem score_at (i : S8x32x2x8x64x192.Idx) (b : Fin 8) (r : Fin 2048) (c : Fin 1024) (j : Fin 192)
    (e0 : (i 0).val = b.val) (e1 : (i 1).val = r.val / 64) (e2 : (i 2).val = c.val / 512) (e3 : (i 3).val = c.val / 64 % 8)
    (e4 : (i 4).val = r.val % 64) (e5 : (i 5).val = j.val) : val_main_v37 x0 x1 x3 i = refScore x0 x1 x3 b r c j := by
  pointwise [val_main_v37_apply, val_main_call2_v1_apply, val_main_v28_apply, val_main_v27_apply, val_main_v26_apply, val_main_c_3_apply, val_main_v25_apply, val_main_v24_apply, val_main_v23_apply, val_main_v22_apply, val_main_v21_apply, val_main_v20_apply, val_main_v19_apply, val_main_c_2_apply, val_main_v18_apply, val_main_v17_apply, val_main_c_1_apply, val_main_v16_apply, val_main_v15_apply, val_main_v36_apply, val_main_v35_apply, val_main_v34_apply, val_main_v33_apply, val_main_v32_apply, val_main_v31_apply, val_main_cst_apply, val_main_v30_apply, val_main_v29_apply, val_main_v0, val_main_call2_v2_apply, val_main_call2_v0_apply, val_main_cst_4_apply]
  refine (congrArg (fun z => Scalar.select z _ _) (mask_bit (i 1) (i 5))).trans ?_
  unfold refScore
  by_cases h : 128 ≤ 64 * (r.val / 64) + j.val
  · rw [dif_pos h, if_pos (by rw [e1, e5]; exact h)]
    refine congrArg₂ (fun p q : EReal => p * Ideal.ofBits .f32 1040187392#32 + q) (Finset.sum_congr rfl fun d _ => ?_) ?_
    · refine congrArg₂ (fun p q : EReal => p * q) (key_at x1 _ b r c j d h e0 e1 e5 e2 rfl) ?_
      refine congrArg x0 (funext fun a => Fin.ext ?_)
      match a with
      | ⟨0, _⟩ => exact e0
      | ⟨1, _⟩ => show (i 1).val * 64 + (i 4).val = r.val; omega
      | ⟨2, _⟩ => show (i 2).val * 512 + (i 3).val * 64 + d.val = 64 * (c.val / 64) + d.val; omega
    · refine congrArg x3 (funext fun a => Fin.ext ?_)
      have h2 := c.isLt
      match a with
      | ⟨0, _⟩ => show ((((i 2).val * 8 + (i 3).val) * 64 + (i 4).val) * 192 + (i 5).val) / 12288 = c.val / 64; omega
      | ⟨1, _⟩ => show ((((i 2).val * 8 + (i 3).val) * 64 + (i 4).val) * 192 + (i 5).val) / 192 % 64 = r.val % 64; omega
      | ⟨2, _⟩ => show ((((i 2).val * 8 + (i 3).val) * 64 + (i 4).val) * 192 + (i 5).val) % 192 = j.val; omega
  · rw [dif_neg h, if_neg (by rw [e1, e5]; exact h)]
    rfl

theorem row_at (i : S8x32x2x8x64.Idx) (b : Fin 8) (r : Fin 2048) (c : Fin 1024)
    (e0 : (i 0).val = b.val) (e1 : (i 1).val = r.val / 64) (e2 : (i 2).val = c.val / 512) (e3 : (i 3).val = c.val / 64 % 8)
    (e4 : (i 4).val = r.val % 64) : row x0 x1 x3 x4 i = withSink (refScore x0 x1 x3 b r c) (x4 (ix1 ⟨c.val / 64, by omega⟩)) := by
  funext k
  unfold row withSink
  pointwise [val_main_v40]
  by_cases h : k.val < 192
  · rw [dif_pos h, dif_pos h]
    exact score_at x0 x1 x3 _ b r c ⟨k.val, h⟩ e0 e1 e2 e3 e4 rfl
  · rw [dif_neg h, dif_neg h, val_main_v39_apply, val_main_v38_apply]
    refine congrArg x4 (funext fun a => Fin.ext ?_)
    match a with
    | ⟨0, _⟩ => show (((i 2).val * 8 + (i 3).val) * 1 + 0) * 1 + 0 = c.val / 64; omega

/-- The reference at an entry of the output. -/
theorem final_at (b : Fin 8) (r : Fin 2048) (c : Fin 1024) : val_main_v56 x0 x1 x2 x3 x4 (ix3 b r c)
    = softmaxAttn (withSink (refScore x0 x1 x3 b r c) (x4 (ix1 ⟨c.val / 64, by omega⟩))) (refVal x2 b r c) := by
  pointwise [val_main_v56, val_main_v55, val_main_v54_apply, out_at]
  exact congrArg₂ softmaxAttn (row_at x0 x1 x3 x4 _ b r c rfl rfl rfl rfl rfl)
    (funext fun j => val_at x2 _ b r c j rfl rfl rfl rfl rfl)

end Cert.ReferenceIdeal.Attn
-- ==== Proof.AttnArr.lean ====
module

public import proofs.«01_k».proof.Proof.Gen.KernelIdeal.Frame
public import proofs.«01_k».proof.Proof.AttnVal
public import Idealize.ShloMosaic.Lib.Pipeline.ValueKit
public import proofs.«01_k».proof.Proof.AttnRef
public import proofs.«01_k».proof.Defs
public import Idealize.ShloMosaic.Lib.Pointwise
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.AttnMath

theorem eighth : ∃ r : ℝ, 0 ≤ r ∧ Ideal.ofBits .f32 0x3E000000#32 = (r : EReal) := by
  refine ⟨1/8, by norm_num, ?_⟩
  simp [Ideal.ofBits, Ideal.ieee, -EReal.coe_mul]; norm_num

theorem masked_real : ∃ r : ℝ, Ideal.ofBits .f32 0xF149F2CA#32 = (r : EReal) := by
  simp only [Ideal.ofBits, Ideal.ieee]
  rw [if_neg (by decide), if_neg (by decide)]
  exact ⟨_, rfl⟩

theorem swap (a b e : EReal) : a * e * b = b * a * e := by
  rw [mul_right_comm, mul_comm a b]

/-- The scores of real queries, keys and biases are real. -/
theorem refScore_real (q : (⟨3, ![8, 2048, 1024]⟩ : Shape).Idx → EReal) (k : (⟨3, ![8, 2048, 128]⟩ : Shape).Idx → EReal)
    (bias : (⟨3, ![16, 64, 192]⟩ : Shape).Idx → EReal) (hq : ∀ i, ∃ r : ℝ, q i = r) (hk : ∀ i, ∃ r : ℝ, k i = r)
    (hb : ∀ i, ∃ r : ℝ, bias i = r) (b : Fin 8) (r : Fin 2048) (c : Fin 1024) (j : Fin 192) : ∃ x : ℝ, refScore q k bias b r c j = x := by
  obtain ⟨e, _, he⟩ := eighth
  choose q' hq using hq
  choose k' hk using hk
  choose b' hb using hb
  unfold refScore
  split
  · simp only [hq, hk, hb, he, ← EReal.coe_mul, sum_coe, ← EReal.coe_add]
    exact ⟨_, rfl⟩
  · exact masked_real

end Cert.AttnMath

namespace Cert.Pre_finite

variable [Facts]
open Facts Cert.AttnMath

instance : Subsingleton S_.Idx := ⟨fun a b => funext fun i => i.elim0⟩

/-- The precondition says that every query, key, bias and sink is a real number. -/
theorem real_of_fn (q : FVec Ideal S8x2048x1024 .f32) (k v : FVec Ideal S8x2048x128 .f32) (b : FVec Ideal S16x64x192 .f32) (s : FVec Ideal S16 .f32)
    (h : fn (F := Ideal) q k v b s = fun _ => 1#1) :
    (∀ i, ∃ r : ℝ, q i = r) ∧ (∀ i, ∃ r : ℝ, k i = r) ∧ (∀ i, ∃ r : ℝ, b i = r) ∧ (∀ i, ∃ r : ℝ, s i = r) := by
  have h0 := congrFun h (Shape.Idx.first h_S_)
  unfold fn fn_part1 at h0
  obtain ⟨h0, hs⟩ := IntOp.andi_eq_one.1 h0
  obtain ⟨h0, hb⟩ := IntOp.andi_eq_one.1 h0
  obtain ⟨hq, hk⟩ := IntOp.andi_eq_one.1 h0
  exact ⟨fun i => real_of_abs (abs_of_bit (Host.reduce_andi_all _ _ _ _ _ hq i)), fun i => real_of_abs (abs_of_bit (Host.reduce_andi_all _ _ _ _ _ hk i)),
    fun i => real_of_abs (abs_of_bit (Host.reduce_andi_all _ _ _ _ _ hb i)), fun i => real_of_abs (abs_of_bit (Host.reduce_andi_all _ _ _ _ _ hs i))⟩

end Cert.Pre_finite

namespace Cert.KernelIdeal.Value

open Cert.KernelIdeal Cert.KernelIdeal.Gen Cert.AttnMath

variable (m : (ℓ : Loc nD τ sig) → Buf (Elt Ideal) ℓ)

/-! The blocks, read from the arrays. -/

theorem V_q (c : Dev nD) : V m c main_v2 = (truncf .bf16 (mulf (m ((c.tc : Thread nD τ).loc main_arg0) : FVec Ideal S8x2048x1024 .f32)
    (broadcastInDim S8x2048x1024 ![] bcast_S_S8x2048x1024 (constant (F := Ideal) S_ .f32 0x3E000000#32))) bitsLt_bf16_f32 : FVec Ideal S8x2048x1024 .bf16) := by
  unfold V
  simp only [List.flatten_cons, List.flatten_nil, List.cons_append, List.nil_append, List.append_nil, StableHlo.after_append]
  after_results_simp

theorem V_k (c : Dev nD) : V m c main_v4 = (pad S8x2176x128 ![0, 128, 0] ![0, 0, 0] ![0, 0, 0]
    (truncf .bf16 (m ((c.tc : Thread nD τ).loc main_arg1) : FVec Ideal S8x2048x128 .f32) bitsLt_bf16_f32 : FVec Ideal S8x2048x128 .bf16)
    (sitofp (F := Ideal) .bf16 (constantI S_ 32 0#32)) pads_S8x2048x128_S8x2176x128_000_12800_000 h_S_ : FVec Ideal S8x2176x128 .bf16) := by
  unfold V
  simp only [List.flatten_cons, List.flatten_nil, List.cons_append, List.nil_append, List.append_nil, StableHlo.after_append]
  after_results_simp
  rfl

theorem V_v (c : Dev nD) : V m c main_v6 = (pad S8x2176x128 ![0, 128, 0] ![0, 0, 0] ![0, 0, 0]
    (truncf .bf16 (m ((c.tc : Thread nD τ).loc main_arg2) : FVec Ideal S8x2048x128 .f32) bitsLt_bf16_f32 : FVec Ideal S8x2048x128 .bf16)
    (sitofp (F := Ideal) .bf16 (constantI S_ 32 0#32)) pads_S8x2048x128_S8x2176x128_000_12800_000 h_S_ : FVec Ideal S8x2176x128 .bf16) := by
  unfold V
  simp only [List.flatten_cons, List.flatten_nil, List.cons_append, List.nil_append, List.append_nil, StableHlo.after_append]
  after_results_simp
  rfl

theorem pad_zero : (FloatOps.sitofp (F := Ideal) FTy.bf16 (0#32) : EReal) = 0 := by
  show (((0#32 : BitVec 32).toInt : ℝ) : EReal) = 0
  simp

/-- The padded keys (and values), read at an index. -/
theorem padded_at (x : FVec Ideal S8x2048x128 .f32) (b : Fin 8) (p : Fin 2176) (d : Fin 128) :
    (pad S8x2176x128 ![0, 128, 0] ![0, 0, 0] ![0, 0, 0] (truncf .bf16 x bitsLt_bf16_f32 : FVec Ideal S8x2048x128 .bf16)
    (sitofp (F := Ideal) .bf16 (constantI S_ 32 0#32)) pads_S8x2048x128_S8x2176x128_000_12800_000 h_S_ : FVec Ideal S8x2176x128 .bf16) (ix3 b p d)
      = if h : 128 ≤ p.val then x (ix3 b ⟨p.val - 128, by omega⟩ d) else 0 := by
  pointwise []
  rw [pad_zero]
  refine dite_congr (propext ⟨fun h => h.1, fun h => ⟨h, by omega⟩⟩) (fun _ => rfl) fun _ => rfl

/-- An element of the block of queries. -/
theorem blk_q (c : Dev nD) (t : Fin cfg0.N) (r : Fin 128) (d : Fin 1024) : (iblk m c 1 t : Vec Ideal S1x128x1024 .bf16) (ix3 0 r d)
    = (V m c main_v2 : Vec Ideal S8x2048x1024 .bf16) (ix3 ⟨t.val / 16, by have h : t.val < 128 := t.isLt; omega⟩ ⟨128 * (t.val % 16) + r.val, by omega⟩ d) := by
  unfold iblk
  have hV' : V m c (Pipeline.arrRef spec0 1) = V m c main_v2 := rfl
  rw [hV']
  generalize V m c main_v2 = W
  blk_point [idx t]

/-- An element of the block of keys. -/
theorem blk_k (c : Dev nD) (t : Fin cfg0.N) (p : Fin 2176) (d : Fin 128) : (iblk m c 2 t : Vec Ideal S1x2176x128 .bf16) (ix3 0 p d)
    = (V m c main_v4 : Vec Ideal S8x2176x128 .bf16) (ix3 ⟨t.val / 16, by have h : t.val < 128 := t.isLt; omega⟩ p d) := by
  unfold iblk
  have hV' : V m c (Pipeline.arrRef spec0 2) = V m c main_v4 := rfl
  rw [hV']
  generalize V m c main_v4 = W
  blk_point [idx t]

/-- An element of the block of values. -/
theorem blk_v (c : Dev nD) (t : Fin cfg0.N) (p : Fin 2176) (d : Fin 128) : (iblk m c 3 t : Vec Ideal S1x2176x128 .bf16) (ix3 0 p d)
    = (V m c main_v6 : Vec Ideal S8x2176x128 .bf16) (ix3 ⟨t.val / 16, by have h : t.val < 128 := t.isLt; omega⟩ p d) := by
  unfold iblk
  have hV' : V m c (Pipeline.arrRef spec0 3) = V m c main_v6 := rfl
  rw [hV']
  generalize V m c main_v6 = W
  blk_point [idx t]

/-- An element of the biases. -/
theorem blk_b (c : Dev nD) (t : Fin cfg0.N) (h : Fin 16) (r : Fin 64) (k : Fin 192) : (iblk m c 4 t : Vec Ideal S16x64x192 .f32) (ix3 h r k)
    = (V m c main_arg3 : Vec Ideal S16x64x192 .f32) (ix3 h r k) := by
  unfold iblk
  have hV' : V m c (Pipeline.arrRef spec0 4) = V m c main_arg3 := rfl
  rw [hV']
  generalize V m c main_arg3 = W
  blk_point [idx t]

/-- A sink. -/
theorem blk_s (c : Dev nD) (t : Fin cfg0.N) (h : Fin 16) : (iblk m c 0 t : Vec Ideal S16 .f32) (ix1 h)
    = (V m c main_arg4 : Vec Ideal S16 .f32) (ix1 h) := by
  unfold iblk
  have hV' : V m c (Pipeline.arrRef spec0 0) = V m c main_arg4 := rfl
  rw [hV']
  generalize V m c main_arg4 = W
  blk_point [idx t]

/-! The arrays that the host code only reads are the arguments. -/

theorem V_arg0 (c : Dev nD) : V m c main_arg0 = m ((c.tc : Thread nD τ).loc main_arg0) := by
  unfold V
  simp only [List.flatten_cons, List.flatten_nil, List.cons_append, List.nil_append, List.append_nil, StableHlo.after_append]
  after_results_simp

theorem V_arg1 (c : Dev nD) : V m c main_arg1 = m ((c.tc : Thread nD τ).loc main_arg1) := by
  unfold V
  simp only [List.flatten_cons, List.flatten_nil, List.cons_append, List.nil_append, List.append_nil, StableHlo.after_append]
  after_results_simp

theorem V_arg2 (c : Dev nD) : V m c main_arg2 = m ((c.tc : Thread nD τ).loc main_arg2) := by
  unfold V
  simp only [List.flatten_cons, List.flatten_nil, List.cons_append, List.nil_append, List.append_nil, StableHlo.after_append]
  after_results_simp

theorem V_b (c : Dev nD) : V m c main_arg3 = m ((c.tc : Thread nD τ).loc main_arg3) := by
  unfold V
  simp only [List.flatten_cons, List.flatten_nil, List.cons_append, List.nil_append, List.append_nil, StableHlo.after_append]
  after_results_simp

theorem V_s (c : Dev nD) : V m c main_arg4 = m ((c.tc : Thread nD τ).loc main_arg4) := by
  unfold V
  simp only [List.flatten_cons, List.flatten_nil, List.cons_append, List.nil_append, List.append_nil, StableHlo.after_append]
  after_results_simp

/-- The scaled queries, read at an index. -/
theorem scaled_at (x : FVec Ideal S8x2048x1024 .f32) (i : S8x2048x1024.Idx) :
    (truncf .bf16 (mulf x (broadcastInDim S8x2048x1024 ![] bcast_S_S8x2048x1024 (constant (F := Ideal) S_ .f32 0x3E000000#32))) bitsLt_bf16_f32 : FVec Ideal S8x2048x1024 .bf16) i
      = x i * Ideal.ofBits .f32 0x3E000000#32 := by
  pointwise []

section
variable (c : Dev nD) (t : Fin cfg0.N) (r : Fin 128) (d : Fin 1024)

/-- The row of the array that row `r` of block `t` is. -/
def row : Fin 2048 := ⟨128 * (t.val % 16) + r.val, by omega⟩
/-- The batch of block `t`. -/
def batch : Fin 8 := ⟨t.val / 16, by have h : t.val < 128 := t.isLt; omega⟩

/-- The scores of the blocks are the reference's. -/
theorem score_eq : blkScore ((grid0.coords t) 1) (iblk m c 1 t) (iblk m c 2 t) (iblk m c 4 t) r d
    = refScore (m ((c.tc : Thread nD τ).loc main_arg0)) (m ((c.tc : Thread nD τ).loc main_arg1)) (m ((c.tc : Thread nD τ).loc main_arg3)) (batch t) (row t r) d := by
  funext k
  have hn : ((grid0.coords t) 1).val = t.val % 16 := (idx t).2.1
  have hn' : ((grid0.coords t) 1).val < 16 := ((grid0.coords t) 1).isLt
  have hw : 64 * ((row t r).val / 64) = 64 * (2 * ((grid0.coords t) 1).val + r.val / 64) := by
    show 64 * ((128 * (t.val % 16) + r.val) / 64) = _; omega
  have hr : (row t r).val % 64 = r.val % 64 := by show (128 * (t.val % 16) + r.val) % 64 = _; omega
  unfold blkScore refScore
  by_cases hm : 128 ≤ 64 * (2 * ((grid0.coords t) 1).val + r.val / 64) + k.val
  · rw [if_pos hm, dif_pos (show 128 ≤ 64 * ((row t r).val / 64) + k.val by omega)]
    obtain ⟨e, he0, he⟩ := eighth
    refine congrArg₂ (· + ·) ?_ ?_
    · rw [he, sum_mul_real _ he0]
      refine Finset.sum_congr rfl fun x _ => ?_
      refine (congrArg₂ (fun a b : EReal => a * b) ((blk_q m c t r _).trans ((congrFun (V_q m c) _).trans (scaled_at _ _)))
        ((blk_k m c t _ _).trans ((congrFun (V_k m c) _).trans (padded_at _ _ _ _)))).trans ?_
      rw [dif_pos (show 128 ≤ 64 * (2 * ((grid0.coords t) 1).val + r.val / 64) + k.val from hm), he]
      refine (swap _ _ _).trans (congrArg (fun z : EReal => z * (e : EReal)) (congrArg (fun z : EReal => z * _) ?_))
      refine congrArg (fun p : Fin 2048 => (m ((c.tc : Thread nD τ).loc main_arg1) : FVec Ideal S8x2048x128 .f32) (ix3 (batch t) p ⟨64 * (d.val / 512) + x.val, by omega⟩)) (Fin.ext ?_)
      show 64 * (2 * ((grid0.coords t) 1).val + r.val / 64) + k.val - 128 = 64 * ((row t r).val / 64) + k.val - 128
      omega
    · refine (blk_b m c t _ _ k).trans ((congrFun (V_b m c) _).trans ?_)
      exact congrArg (fun z : Fin 64 => (m ((c.tc : Thread nD τ).loc main_arg3) : FVec Ideal S16x64x192 .f32) (ix3 _ z k)) (Fin.ext hr.symm)
  · rw [if_neg hm, dif_neg (show ¬128 ≤ 64 * ((row t r).val / 64) + k.val by omega)]

/-- The values of the blocks are the reference's. -/
theorem val_eq : blkVal ((grid0.coords t) 1) (iblk m c 3 t) r d
    = refVal (m ((c.tc : Thread nD τ).loc main_arg2)) (batch t) (row t r) d := by
  funext k
  have hn : ((grid0.coords t) 1).val = t.val % 16 := (idx t).2.1
  have hn' : ((grid0.coords t) 1).val < 16 := ((grid0.coords t) 1).isLt
  have hw : 64 * ((row t r).val / 64) = 64 * (2 * ((grid0.coords t) 1).val + r.val / 64) := by
    show 64 * ((128 * (t.val % 16) + r.val) / 64) = _; omega
  unfold blkVal refVal
  refine (blk_v m c t _ _).trans ((congrFun (V_v m c) _).trans ((padded_at _ _ _ _).trans ?_))
  by_cases hm : 128 ≤ 64 * (2 * ((grid0.coords t) 1).val + r.val / 64) + k.val
  · rw [dif_pos (show 128 ≤ 64 * (2 * ((grid0.coords t) 1).val + r.val / 64) + k.val from hm), dif_pos (show 128 ≤ 64 * ((row t r).val / 64) + k.val by omega)]
    refine congrArg (fun p : Fin 2048 => (m ((c.tc : Thread nD τ).loc main_arg2) : FVec Ideal S8x2048x128 .f32) (ix3 _ p _)) (Fin.ext ?_)
    show 64 * (2 * ((grid0.coords t) 1).val + r.val / 64) + k.val - 128 = 64 * ((row t r).val / 64) + k.val - 128
    omega
  · rw [dif_neg (show ¬128 ≤ 64 * (2 * ((grid0.coords t) 1).val + r.val / 64) + k.val from hm), dif_neg (show ¬128 ≤ 64 * ((row t r).val / 64) + k.val by omega)]

end

/-- Where an element of block `t` of the output lies. -/
theorem out_at (t : Fin cfg0.N) (y : S1x128x1024.Idx) : (win0_5.blk t).view.emb y = ix3 (batch t) (row t (y 1)) (y 2) := by
  have y0 : (y 0).val < 1 := (y 0).isLt
  blk_ext [idx t]
  · rfl
  · exact congrArg (· + (y 1).val) (Nat.mul_comm _ _)

/-- The array the kernel leaves in its output window is the reference's. -/
theorem final5 [Cert.Pre_finite.Facts] (hpre : Cert.Pre_KernelIdeal_finite m) (c : Dev nD) : (dats m 0 c).arrAt 5 (cfgs 0).N
    = Cert.ReferenceIdeal.Read.val_main_v56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  obtain ⟨hq, hk, hb, hs⟩ := Cert.Pre_finite.real_of_fn _ _ _ _ _ (hpre c)
  refine (dats m 0 c).arrAt_eq_of_covers 5 _ (by decide +kernel) fun t _ y => ?_
  blk_simp
  rw [after0_5]
  refine (point m c t y).trans ?_
  refine Eq.trans ?_ (congrArg _ (out_at t y)).symm
  refine Eq.trans ?_ (Cert.ReferenceIdeal.Attn.final_at _ _ _ _ _ _ _ _).symm
  have real : ∀ {x : EReal}, (∃ r : ℝ, x = r) → x < ⊤ ∧ ⊥ < x := by
    rintro x ⟨r, rfl⟩
    exact ⟨EReal.coe_lt_top r, EReal.bot_lt_coe r⟩
  refine Eq.trans ?_ (softmaxAttn_eq _ _ _ (fun k => (real (refScore_real _ _ _ hq hk hb _ _ _ k)).1)
    (fun k => (real (refScore_real _ _ _ hq hk hb _ _ _ k)).2) (real (hs _)).1 (real (hs _)).2).symm
  exact congr (congr (congrArg attn (score_eq m c t (y 1) (y 2))) ((blk_s m c t _).trans (congrFun (V_s m c) _))) (val_eq m c t (y 1) (y 2))

end Cert.KernelIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ProjKvS
public import proofs.«01_k».proof.Proof.Gen.ProjKvS.Skeleton
public import proofs.«01_k».proof.Proof.Gen.ProjKvS.Launch
public import proofs.«01_k».proof.Proof.Gen.ProjKvS.Points
public import proofs.«01_k».proof.Proof.Gen.ProjKvS.Frame
public import proofs.«01_k».proof.Proof.Gen.ProjKvSIdeal
public import proofs.«01_k».proof.Proof.Gen.ProjKvSIdeal.Skeleton
public import proofs.«01_k».proof.Proof.Gen.ProjKvSIdeal.Launch
public import proofs.«01_k».proof.Proof.Gen.ProjKvSIdeal.Points
public import proofs.«01_k».proof.Proof.Gen.ProjKvSIdeal.Frame
public import proofs.«01_k».proof.Proof.Gen.ProjKvSRefIdeal
public import proofs.«01_k».proof.Proof.Gen.ProjKvSRefIdeal.Run
public import proofs.«01_k».proof.Proof.Gen.ProjKvSRefIdeal.Read
public import proofs.«01_k».proof.Proof.Gen.ProjVsS
public import proofs.«01_k».proof.Proof.Gen.ProjVsS.Skeleton
public import proofs.«01_k».proof.Proof.Gen.ProjVsS.Launch
public import proofs.«01_k».proof.Proof.Gen.ProjVsS.Points
public import proofs.«01_k».proof.Proof.Gen.ProjVsS.Frame
public import proofs.«01_k».proof.Proof.Gen.ProjVsSIdeal
public import proofs.«01_k».proof.Proof.Gen.ProjVsSIdeal.Skeleton
public import proofs.«01_k».proof.Proof.Gen.ProjVsSIdeal.Launch
public import proofs.«01_k».proof.Proof.Gen.ProjVsSIdeal.Points
public import proofs.«01_k».proof.Proof.Gen.ProjVsSIdeal.Frame
public import proofs.«01_k».proof.Proof.Gen.ProjVsSRefIdeal
public import proofs.«01_k».proof.Proof.Gen.ProjVsSRefIdeal.Run
public import proofs.«01_k».proof.Proof.Gen.ProjVsSRefIdeal.Read
public import proofs.«01_k».proof.Proof.Gen.PeerExperts
public import proofs.«01_k».proof.Proof.Gen.PeerExperts.Skeleton
public import proofs.«01_k».proof.Proof.Gen.PeerExperts.Launch
public import proofs.«01_k».proof.Proof.Gen.PeerExperts.Points
public import proofs.«01_k».proof.Proof.Gen.PeerExperts.Frame
public import proofs.«01_k».proof.Proof.Gen.PeerExpertsIdeal
public import proofs.«01_k».proof.Proof.Gen.PeerExpertsIdeal.Skeleton
public import proofs.«01_k».proof.Proof.Gen.PeerExpertsIdeal.Launch
public import proofs.«01_k».proof.Proof.Gen.PeerExpertsIdeal.Points
public import proofs.«01_k».proof.Proof.Gen.PeerExpertsIdeal.Frame
public import proofs.«01_k».proof.Proof.Gen.PeerExpertsRefIdeal
public import proofs.«01_k».proof.Proof.Gen.PeerExpertsRefIdeal.Run
public import proofs.«01_k».proof.Proof.Gen.PeerExpertsRefIdeal.Read
public import proofs.«01_k».proof.Proof.Gen.PeerExpertsIdeal.Value
public import proofs.«01_k».proof.Proof.Gen.NormQ
public import proofs.«01_k».proof.Proof.Gen.NormQ.Skeleton
public import proofs.«01_k».proof.Proof.Gen.NormQ.Launch
public import proofs.«01_k».proof.Proof.Gen.NormQ.Points
public import proofs.«01_k».proof.Proof.Gen.NormQ.Frame
public import proofs.«01_k».proof.Proof.Gen.NormQIdeal
public import proofs.«01_k».proof.Proof.Gen.NormQIdeal.Skeleton
public import proofs.«01_k».proof.Proof.Gen.NormQIdeal.Launch
public import proofs.«01_k».proof.Proof.Gen.NormQIdeal.Points
public import proofs.«01_k».proof.Proof.Gen.NormQIdeal.Frame
public import proofs.«01_k».proof.Proof.Gen.NormQRefIdeal
public import proofs.«01_k».proof.Proof.Gen.ProjKv
public import proofs.«01_k».proof.Proof.Gen.ProjKv.Skeleton
public import proofs.«01_k».proof.Proof.Gen.ProjKv.Launch
public import proofs.«01_k».proof.Proof.Gen.ProjKv.Points
public import proofs.«01_k».proof.Proof.Gen.ProjKv.Frame
public import proofs.«01_k».proof.Proof.Gen.ProjKvIdeal
public import proofs.«01_k».proof.Proof.Gen.ProjKvIdeal.Skeleton
public import proofs.«01_k».proof.Proof.Gen.ProjKvIdeal.Launch
public import proofs.«01_k».proof.Proof.Gen.ProjKvIdeal.Points
public import proofs.«01_k».proof.Proof.Gen.ProjKvIdeal.Frame
public import proofs.«01_k».proof.Proof.Gen.ProjKvRefIdeal
public import proofs.«01_k».proof.Proof.Gen.ProjU
public import proofs.«01_k».proof.Proof.Gen.ProjU.Skeleton
public import proofs.«01_k».proof.Proof.Gen.ProjU.Launch
public import proofs.«01_k».proof.Proof.Gen.ProjU.Points
public import proofs.«01_k».proof.Proof.Gen.ProjU.Frame
public import proofs.«01_k».proof.Proof.Gen.ProjUIdeal
public import proofs.«01_k».proof.Proof.Gen.ProjUIdeal.Skeleton
public import proofs.«01_k».proof.Proof.Gen.ProjUIdeal.Launch
public import proofs.«01_k».proof.Proof.Gen.ProjUIdeal.Points
public import proofs.«01_k».proof.Proof.Gen.ProjUIdeal.Frame
public import proofs.«01_k».proof.Proof.Gen.ProjURefIdeal
public import proofs.«01_k».proof.Proof.Gen.ProjVs
public import proofs.«01_k».proof.Proof.Gen.ProjVs.Skeleton
public import proofs.«01_k».proof.Proof.Gen.ProjVs.Launch
public import proofs.«01_k».proof.Proof.Gen.ProjVs.Points
public import proofs.«01_k».proof.Proof.Gen.ProjVs.Frame
public import proofs.«01_k».proof.Proof.Gen.ProjVsIdeal
public import proofs.«01_k».proof.Proof.Gen.ProjVsIdeal.Skeleton
public import proofs.«01_k».proof.Proof.Gen.ProjVsIdeal.Launch
public import proofs.«01_k».proof.Proof.Gen.ProjVsIdeal.Points
public import proofs.«01_k».proof.Proof.Gen.ProjVsIdeal.Frame
public import proofs.«01_k».proof.Proof.Gen.ProjVsRefIdeal
public import proofs.«01_k».proof.Proof.Gen.ProjGates
public import proofs.«01_k».proof.Proof.Gen.ProjGates.Skeleton
public import proofs.«01_k».proof.Proof.Gen.ProjGates.Launch
public import proofs.«01_k».proof.Proof.Gen.ProjGates.Points
public import proofs.«01_k».proof.Proof.Gen.ProjGates.Frame
public import proofs.«01_k».proof.Proof.Gen.ProjGatesIdeal
public import proofs.«01_k».proof.Proof.Gen.ProjGatesIdeal.Skeleton
public import proofs.«01_k».proof.Proof.Gen.ProjGatesIdeal.Launch
public import proofs.«01_k».proof.Proof.Gen.ProjGatesIdeal.Points
public import proofs.«01_k».proof.Proof.Gen.ProjGatesIdeal.Frame
public import proofs.«01_k».proof.Proof.Gen.ProjGatesRefIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.PeerQuery
public import proofs.«01_k».proof.Proof.Gen.PeerQuery.Skeleton
public import proofs.«01_k».proof.Proof.Gen.PeerQuery.Launch
public import proofs.«01_k».proof.Proof.Gen.PeerQuery.Points
public import proofs.«01_k».proof.Proof.Gen.PeerQuery.Frame
public import proofs.«01_k».proof.Proof.Gen.PeerQueryIdeal
public import proofs.«01_k».proof.Proof.Gen.PeerQueryIdeal.Skeleton
public import proofs.«01_k».proof.Proof.Gen.PeerQueryIdeal.Launch
public import proofs.«01_k».proof.Proof.Gen.PeerQueryIdeal.Points
public import proofs.«01_k».proof.Proof.Gen.PeerQueryIdeal.Frame
public import proofs.«01_k».proof.Proof.Gen.PeerQueryRefIdeal
public import proofs.«01_k».proof.Proof.Gen.Pre_finite
public import proofs.«01_k».proof.Proof.Gen.Pre_finite_experts
public import proofs.«01_k».proof.Proof.Gen.ReferenceIdeal.Run
public import proofs.«01_k».proof.Proof.Gen.ReferenceIdeal.Read
public import proofs.«01_k».proof.Proof.Gen.NormQRefIdeal.Run
public import proofs.«01_k».proof.Proof.Gen.NormQRefIdeal.Read
public import proofs.«01_k».proof.Proof.Gen.ProjKvRefIdeal.Run
public import proofs.«01_k».proof.Proof.Gen.ProjKvRefIdeal.Read
public import proofs.«01_k».proof.Proof.Gen.ProjURefIdeal.Run
public import proofs.«01_k».proof.Proof.Gen.ProjURefIdeal.Read
public import proofs.«01_k».proof.Proof.Gen.ProjVsRefIdeal.Run
public import proofs.«01_k».proof.Proof.Gen.ProjVsRefIdeal.Read
public import proofs.«01_k».proof.Proof.Gen.ProjGatesRefIdeal.Run
public import proofs.«01_k».proof.Proof.Gen.ProjGatesRefIdeal.Read
public import proofs.«01_k».proof.Proof.Gen.SguRefIdeal.Run
public import proofs.«01_k».proof.Proof.Gen.SguRefIdeal.Read
public import proofs.«01_k».proof.Proof.Gen.MergeRefIdeal.Run
public import proofs.«01_k».proof.Proof.Gen.MergeRefIdeal.Read
public import proofs.«01_k».proof.Proof.Gen.PeerQueryRefIdeal.Run
public import proofs.«01_k».proof.Proof.Gen.PeerQueryRefIdeal.Read
public import proofs.«01_k».proof.Proof.NormQVal
public import proofs.«01_k».proof.Proof.ProjKvVal
public import proofs.«01_k».proof.Proof.ProjUVal
public import proofs.«01_k».proof.Proof.ProjVsVal
public import proofs.«01_k».proof.Proof.ProjGatesVal
public import proofs.«01_k».proof.Proof.SguVal
public import proofs.«01_k».proof.Proof.MergeVal
public import proofs.«01_k».proof.Proof.PeerQueryVal
public import proofs.«01_k».proof.Proof.ProjKvSVal
public import proofs.«01_k».proof.Proof.ProjVsSVal
public import proofs.«01_k».proof.Proof.PeerExpertsVal
public import proofs.«01_k».proof.Proof.AttnArr
public import Idealize.ShloMosaic.Adequacy
public import Idealize.ShloMosaic.Init

@[expose] public section

noncomputable section

namespace Cert.Proof

open Idealize.ShloMosaic Idealize.SL.Sem Cert.Kernel

/-- The run of ReferenceIdeal ends with its arguments unchanged. -/
theorem frame_ReferenceIdeal : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run m ρ)

/-- The run of NormQRefIdeal ends with its arguments unchanged. -/
theorem frame_NormQRefIdeal : Cert.quiescent_NormQRefIdeal := by
  intro m ρ _
  exact (θ_run Cert.NormQRefIdeal.defs _ _).mono
    (fun r h => ⟨fun c => (h c).2.2, sem_eq_zero_of_no_sems (by decide) r.2⟩)
    (Cert.NormQRefIdeal.Value.run m ρ)

/-- The run of ProjKvRefIdeal ends with its arguments unchanged. -/
theorem frame_ProjKvRefIdeal : Cert.quiescent_ProjKvRefIdeal := by
  intro m ρ _
  exact (θ_run Cert.ProjKvRefIdeal.defs _ _).mono
    (fun r h => ⟨fun c => (h c).2, sem_eq_zero_of_no_sems (by decide) r.2⟩)
    (Cert.ProjKvRefIdeal.Value.run m ρ)

/-- The run of ProjURefIdeal ends with its arguments unchanged. -/
theorem frame_ProjURefIdeal : Cert.quiescent_ProjURefIdeal := by
  intro m ρ _
  exact (θ_run Cert.ProjURefIdeal.defs _ _).mono
    (fun r h => ⟨fun c => (h c).2, sem_eq_zero_of_no_sems (by decide) r.2⟩)
    (Cert.ProjURefIdeal.Value.run m ρ)

/-- The run of ProjVsRefIdeal ends with its arguments unchanged. -/
theorem frame_ProjVsRefIdeal : Cert.quiescent_ProjVsRefIdeal := by
  intro m ρ _
  exact (θ_run Cert.ProjVsRefIdeal.defs _ _).mono
    (fun r h => ⟨fun c => (h c).2, sem_eq_zero_of_no_sems (by decide) r.2⟩)
    (Cert.ProjVsRefIdeal.Value.run m ρ)

/-- The run of ProjGatesRefIdeal ends with its arguments unchanged. -/
theorem frame_ProjGatesRefIdeal : Cert.quiescent_ProjGatesRefIdeal := by
  intro m ρ _
  exact (θ_run Cert.ProjGatesRefIdeal.defs _ _).mono
    (fun r h => ⟨fun c => (h c).2, sem_eq_zero_of_no_sems (by decide) r.2⟩)
    (Cert.ProjGatesRefIdeal.Value.run m ρ)

/-- The run of SguRefIdeal ends with its arguments unchanged. -/
theorem frame_SguRefIdeal : Cert.quiescent_SguRefIdeal := by
  intro m ρ _
  exact (θ_run Cert.SguRefIdeal.defs _ _).mono
    (fun r h => ⟨fun c => (h c).2, sem_eq_zero_of_no_sems (by decide) r.2⟩)
    (Cert.SguRefIdeal.Value.run m ρ)

/-- The run of MergeRefIdeal ends with its arguments unchanged. -/
theorem frame_MergeRefIdeal : Cert.quiescent_MergeRefIdeal := by
  intro m ρ _
  exact (θ_run Cert.MergeRefIdeal.defs _ _).mono
    (fun r h => ⟨fun c => (h c).2.2, sem_eq_zero_of_no_sems (by decide) r.2⟩)
    (Cert.MergeRefIdeal.Value.run m ρ)

/-- The run of PeerQueryRefIdeal ends with its arguments unchanged. -/
theorem frame_PeerQueryRefIdeal : Cert.quiescent_PeerQueryRefIdeal := by
  intro m ρ _
  exact (θ_run Cert.PeerQueryRefIdeal.defs _ _).mono
    (fun r h => ⟨fun c => (h c).2, sem_eq_zero_of_no_sems (by decide) r.2⟩)
    (Cert.PeerQueryRefIdeal.Value.run m ρ)

/-- NormQ: the kernel's arrays are the reference's. -/
theorem algebraic_NormQ : Cert.algebraic_NormQIdeal_NormQRefIdeal := by
  pair_intro
  · run_from Cert.NormQIdeal.Gen.run_main m g
  · run_from Cert.NormQRefIdeal.Value.run m' g'
    exact (Cert.NormQIdeal.Value.final3 m c).symm
    exact (Cert.NormQIdeal.Value.final4 m c).symm

/-- ProjKv: the kernel's arrays are the reference's. -/
theorem algebraic_ProjKv : Cert.algebraic_ProjKvIdeal_ProjKvRefIdeal := by
  pair_intro
  · run_from Cert.ProjKvIdeal.Gen.run_main m g
  · run_from Cert.ProjKvRefIdeal.Value.run m' g'
    exact (Cert.ProjKvIdeal.Value.final2 m c).symm

/-- ProjU: the kernel's arrays are the reference's. -/
theorem algebraic_ProjU : Cert.algebraic_ProjUIdeal_ProjURefIdeal := by
  pair_intro
  · run_from Cert.ProjUIdeal.Gen.run_main m g
  · run_from Cert.ProjURefIdeal.Value.run m' g'
    exact (Cert.ProjUIdeal.Value.final2 m c).symm

/-- ProjVs: the kernel's arrays are the reference's. -/
theorem algebraic_ProjVs : Cert.algebraic_ProjVsIdeal_ProjVsRefIdeal := by
  pair_intro
  · run_from Cert.ProjVsIdeal.Gen.run_main m g
  · run_from Cert.ProjVsRefIdeal.Value.run m' g'
    exact (Cert.ProjVsRefIdeal.Read.val_main_v28_eq m' c).trans
      (by rw [(hagree c).1, (hagree c).2.1, (hagree c).2.2]; exact (Cert.ProjVsIdeal.Value.final3 m c).symm)

/-- ProjGates: the kernel's arrays are the reference's. -/
theorem algebraic_ProjGates : Cert.algebraic_ProjGatesIdeal_ProjGatesRefIdeal := by
  pair_intro
  · run_from Cert.ProjGatesIdeal.Gen.run_main m g
  · run_from Cert.ProjGatesRefIdeal.Value.run m' g'
    exact (Cert.ProjGatesIdeal.Value.final2 m c).symm

/-- Sgu: the kernel's arrays are the reference's. -/
theorem algebraic_Sgu : Cert.algebraic_SguIdeal_SguRefIdeal := by
  pair_intro
  · run_from Cert.SguIdeal.Gen.run_main m g
  · run_from Cert.SguRefIdeal.Value.run m' g'
    exact (Cert.SguIdeal.Value.final4 m c).symm

/-- Merge: the kernel's arrays are the reference's. -/
theorem algebraic_Merge : Cert.algebraic_MergeIdeal_MergeRefIdeal := by
  pair_intro
  · run_from Cert.MergeIdeal.Gen.run_main m g
  · run_from Cert.MergeRefIdeal.Value.run m' g'
    exact (Cert.MergeIdeal.Value.final8 m c).symm
    exact (Cert.MergeIdeal.Value.final9 m c).symm

/-- PeerQuery: the kernel's arrays are the reference's. -/
theorem algebraic_PeerQuery : Cert.algebraic_PeerQueryIdeal_PeerQueryRefIdeal := by
  pair_intro
  · run_from Cert.PeerQueryIdeal.Gen.run_main m g
  · run_from Cert.PeerQueryRefIdeal.Value.run m' g'
    exact (Cert.PeerQueryIdeal.Value.final2 m c).symm

/-- The attention: the kernel's array is the reference's, where the precondition holds. -/
theorem algebraic_Kernel : Cert.algebraic_KernelIdeal_ReferenceIdeal_pre_finite := by
  pair_intro
  · run_from Cert.KernelIdeal.Gen.run_main m g
    · exact Cert.KernelIdeal.Value.V_arg0 m c
    · exact Cert.KernelIdeal.Value.V_arg1 m c
    · exact Cert.KernelIdeal.Value.V_arg2 m c
  · run_from Cert.ReferenceIdeal.Value.run m' g'
    exact (Cert.ReferenceIdeal.Read.val_main_v56_eq m' c).trans
      (by rw [(hagree c).1, (hagree c).2.1, (hagree c).2.2.1, (hagree c).2.2.2.1, (hagree c).2.2.2.2]; exact (Cert.KernelIdeal.Value.final5 m hpre c).symm)

/-- The run of ProjKvSRefIdeal ends with its arguments unchanged. -/
theorem frame_ProjKvSRefIdeal : Cert.quiescent_ProjKvSRefIdeal := by
  intro m ρ _
  exact (θ_run Cert.ProjKvSRefIdeal.defs _ _).mono
    (fun r h => ⟨fun c => (h c).2, sem_eq_zero_of_no_sems (by decide) r.2⟩) (Cert.ProjKvSRefIdeal.Value.run m ρ)

/-- The run of ProjVsSRefIdeal ends with its arguments unchanged. -/
theorem frame_ProjVsSRefIdeal : Cert.quiescent_ProjVsSRefIdeal := by
  intro m ρ _
  exact (θ_run Cert.ProjVsSRefIdeal.defs _ _).mono
    (fun r h => ⟨fun c => (h c).2, sem_eq_zero_of_no_sems (by decide) r.2⟩) (Cert.ProjVsSRefIdeal.Value.run m ρ)

/-- The run of PeerExpertsRefIdeal ends with its arguments unchanged. -/
theorem frame_PeerExpertsRefIdeal : Cert.quiescent_PeerExpertsRefIdeal := by
  intro m ρ _
  exact (θ_run Cert.PeerExpertsRefIdeal.defs _ _).mono
    (fun r h => ⟨fun c => (h c).2, sem_eq_zero_of_no_sems (by decide) r.2⟩) (Cert.PeerExpertsRefIdeal.Value.run m ρ)

/-- ProjKvS: the kernel's arrays are the reference's. -/
theorem algebraic_ProjKvS : Cert.algebraic_ProjKvSIdeal_ProjKvSRefIdeal := by
  pair_intro
  · run_from Cert.ProjKvSIdeal.Gen.run_main m g
  · run_from Cert.ProjKvSRefIdeal.Value.run m' g'
    exact (Cert.ProjKvSIdeal.Value.final2 m c).symm

/-- ProjVsS: the kernel's arrays are the reference's. -/
theorem algebraic_ProjVsS : Cert.algebraic_ProjVsSIdeal_ProjVsSRefIdeal := by
  pair_intro
  · run_from Cert.ProjVsSIdeal.Gen.run_main m g
  · run_from Cert.ProjVsSRefIdeal.Value.run m' g'
    exact (Cert.ProjVsSRefIdeal.Read.val_main_v28_eq m' c).trans
      (by rw [(hagree c).1, (hagree c).2.1, (hagree c).2.2]; exact (Cert.ProjVsSIdeal.Value.final3 m c).symm)

/-- The named product of GELU's two constants has the value its name stands for. -/
theorem preserves_PeerExperts : Cert.preserves_PeerExperts_PeerExpertsIdeal :=
  IdealRules.named_const.statement Cert.PeerExpertsIdeal.κ "c_alpha" .f32 0x3D122279#32 ((80338380498831 / 2251799813685248 : ℝ) : EReal) rfl

/-- PeerExperts: the kernel's arrays are the reference's. -/
theorem algebraic_PeerExperts : Cert.algebraic_PeerExpertsIdeal_PeerExpertsRefIdeal_pre_finite_experts := by
  pair_intro
  · run_from Cert.PeerExpertsIdeal.Value.run m g
  · run_from Cert.PeerExpertsRefIdeal.Value.run m' g'
    obtain ⟨h0, h1, h2, h3, h4, h5, h6, h7, h8⟩ := hagree c
    exact (Cert.PeerExpertsRefIdeal.Read.val_main_v45_eq m' c).trans
      (by rw [h0, h1, h2, h3, h4, h5, h6, h7, h8]; exact (Cert.PeerExpertsIdeal.Value.final m c hpre).symm)

theorem claim : Cert.Claim := ⟨Cert.Kernel.Gen.facts, Cert.KernelIdeal.Gen.facts, Cert.ReferenceIdeal.Gen.facts, Cert.NormQ.Gen.facts, Cert.NormQIdeal.Gen.facts, Cert.NormQRefIdeal.Gen.facts, Cert.ProjKv.Gen.facts, Cert.ProjKvIdeal.Gen.facts, Cert.ProjKvRefIdeal.Gen.facts, Cert.ProjU.Gen.facts, Cert.ProjUIdeal.Gen.facts, Cert.ProjURefIdeal.Gen.facts, Cert.ProjVs.Gen.facts, Cert.ProjVsIdeal.Gen.facts, Cert.ProjVsRefIdeal.Gen.facts, Cert.ProjGates.Gen.facts, Cert.ProjGatesIdeal.Gen.facts, Cert.ProjGatesRefIdeal.Gen.facts, Cert.Sgu.Gen.facts, Cert.SguIdeal.Gen.facts, Cert.SguRefIdeal.Gen.facts, Cert.Merge.Gen.facts, Cert.MergeIdeal.Gen.facts, Cert.MergeRefIdeal.Gen.facts, Cert.PeerQuery.Gen.facts, Cert.PeerQueryIdeal.Gen.facts, Cert.PeerQueryRefIdeal.Gen.facts, Cert.ProjKvS.Gen.facts, Cert.ProjKvSIdeal.Gen.facts, Cert.ProjKvSRefIdeal.Gen.facts, Cert.ProjVsS.Gen.facts, Cert.ProjVsSIdeal.Gen.facts, Cert.ProjVsSRefIdeal.Gen.facts, Cert.PeerExperts.Gen.facts, Cert.PeerExpertsIdeal.Gen.facts, Cert.PeerExpertsRefIdeal.Gen.facts, Cert.Pre_finite.Gen.facts, Cert.Pre_finite_experts.Gen.facts,
  fun m ρ _ => Cert.Kernel.Gen.frame m ρ,
  fun m ρ _ => Cert.KernelIdeal.Gen.frame m ρ,
  fun m ρ _ => Cert.KernelIdeal.Gen.frame m ρ,
  fun m ρ _ => frame_ReferenceIdeal m ρ trivial,
  fun m ρ _ => frame_ReferenceIdeal m ρ trivial,
  fun m ρ _ => Cert.NormQ.Gen.frame m ρ,
  fun m ρ _ => Cert.NormQIdeal.Gen.frame m ρ,
  frame_NormQRefIdeal,
  fun m ρ _ => Cert.ProjKv.Gen.frame m ρ,
  fun m ρ _ => Cert.ProjKvIdeal.Gen.frame m ρ,
  frame_ProjKvRefIdeal,
  fun m ρ _ => Cert.ProjU.Gen.frame m ρ,
  fun m ρ _ => Cert.ProjUIdeal.Gen.frame m ρ,
  frame_ProjURefIdeal,
  fun m ρ _ => Cert.ProjVs.Gen.frame m ρ,
  fun m ρ _ => Cert.ProjVsIdeal.Gen.frame m ρ,
  frame_ProjVsRefIdeal,
  fun m ρ _ => Cert.ProjGates.Gen.frame m ρ,
  fun m ρ _ => Cert.ProjGatesIdeal.Gen.frame m ρ,
  frame_ProjGatesRefIdeal,
  fun m ρ _ => Cert.Sgu.Gen.frame m ρ,
  fun m ρ _ => Cert.SguIdeal.Gen.frame m ρ,
  frame_SguRefIdeal,
  fun m ρ _ => Cert.Merge.Gen.frame m ρ,
  fun m ρ _ => Cert.MergeIdeal.Gen.frame m ρ,
  frame_MergeRefIdeal,
  fun m ρ _ => Cert.PeerQuery.Gen.frame m ρ,
  fun m ρ _ => Cert.PeerQueryIdeal.Gen.frame m ρ,
  frame_PeerQueryRefIdeal,
  fun m ρ _ => Cert.ProjKvS.Gen.frame m ρ,
  fun m ρ _ => Cert.ProjKvSIdeal.Gen.frame m ρ,
  frame_ProjKvSRefIdeal,
  fun m ρ _ => Cert.ProjVsS.Gen.frame m ρ,
  fun m ρ _ => Cert.ProjVsSIdeal.Gen.frame m ρ,
  frame_ProjVsSRefIdeal,
  fun m ρ _ => Cert.PeerExperts.Gen.frame m ρ,
  fun m ρ _ => Cert.PeerExpertsIdeal.Gen.frame m ρ,
  fun m ρ _ => Cert.PeerExpertsIdeal.Gen.frame m ρ,
  fun m ρ _ => frame_PeerExpertsRefIdeal m ρ trivial,
  fun m ρ _ => frame_PeerExpertsRefIdeal m ρ trivial,
  trivial,
  algebraic_Kernel,
  trivial,
  algebraic_NormQ,
  trivial,
  algebraic_ProjKv,
  trivial,
  algebraic_ProjU,
  trivial,
  algebraic_ProjVs,
  trivial,
  algebraic_ProjGates,
  trivial,
  algebraic_Sgu,
  trivial,
  algebraic_Merge,
  trivial,
  algebraic_PeerQuery,
  trivial,
  algebraic_ProjKvS,
  trivial,
  algebraic_ProjVsS,
  preserves_PeerExperts,
  algebraic_PeerExperts⟩

end Cert.Proof

end
